-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_x [hPre_finite_x : Cert.Pre_finite_x.Facts] (m : (ℓ : Loc Cert.InProjIdeal.nD Cert.InProjIdeal.τ Cert.InProjIdeal.sig) → Buf (Elt Ideal) ℓ) : Prop :=
  ∀ c : Dev Cert.InProjIdeal.nD,
    (Cert.Pre_finite_x.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_finite_x.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_x [hPre_finite_x : Cert.Pre_finite_x.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_x.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_finite_x.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2 = (fun _ => 1#1)

def Pre_MixMem (m : (ℓ : Loc Cert.MixMem.nD Cert.MixMem.τ Cert.MixMem.sig) → Buf (Elt Bits) ℓ) : Prop :=
  True

def Pre_MixMemIdeal (m : (ℓ : Loc Cert.MixMemIdeal.nD Cert.MixMemIdeal.τ Cert.MixMemIdeal.sig) → Buf (Elt Ideal) ℓ) : Prop :=
  True

def Pre_MixMemIdeal_finite_mix [hPre_finite_mix : Cert.Pre_finite_mix.Facts] (m : (ℓ : Loc Cert.MixMemIdeal.nD Cert.MixMemIdeal.τ Cert.MixMemIdeal.sig) → Buf (Elt Ideal) ℓ) : Prop :=
  ∀ c : Dev Cert.MixMemIdeal.nD,
    (Cert.Pre_finite_mix.fn (F := Ideal) (m ((c.tc : Thread Cert.MixMemIdeal.nD Cert.MixMemIdeal.τ).loc Cert.MixMemIdeal.main_arg0)) (m ((c.tc : Thread Cert.MixMemIdeal.nD Cert.MixMemIdeal.τ).loc Cert.MixMemIdeal.main_arg1)) (m ((c.tc : Thread Cert.MixMemIdeal.nD Cert.MixMemIdeal.τ).loc Cert.MixMemIdeal.main_arg2)) (m ((c.tc : Thread Cert.MixMemIdeal.nD Cert.MixMemIdeal.τ).loc Cert.MixMemIdeal.main_arg3)) (m ((c.tc : Thread Cert.MixMemIdeal.nD Cert.MixMemIdeal.τ).loc Cert.MixMemIdeal.main_arg4)) (m ((c.tc : Thread Cert.MixMemIdeal.nD Cert.MixMemIdeal.τ).loc Cert.MixMemIdeal.main_arg5)) (m ((c.tc : Thread Cert.MixMemIdeal.nD Cert.MixMemIdeal.τ).loc Cert.MixMemIdeal.main_arg6)) (m ((c.tc : Thread Cert.MixMemIdeal.nD Cert.MixMemIdeal.τ).loc Cert.MixMemIdeal.main_arg7)) (m ((c.tc : Thread Cert.MixMemIdeal.nD Cert.MixMemIdeal.τ).loc Cert.MixMemIdeal.main_arg8)) (m ((c.tc : Thread Cert.MixMemIdeal.nD Cert.MixMemIdeal.τ).loc Cert.MixMemIdeal.main_arg9)) (m ((c.tc : Thread Cert.MixMemIdeal.nD Cert.MixMemIdeal.τ).loc Cert.MixMemIdeal.main_arg10)) (m ((c.tc : Thread Cert.MixMemIdeal.nD Cert.MixMemIdeal.τ).loc Cert.MixMemIdeal.main_arg11)) (m ((c.tc : Thread Cert.MixMemIdeal.nD Cert.MixMemIdeal.τ).loc Cert.MixMemIdeal.main_arg12)) (m ((c.tc : Thread Cert.MixMemIdeal.nD Cert.MixMemIdeal.τ).loc Cert.MixMemIdeal.main_arg13))).1 = (fun _ => 1#1)
    ∧ (Cert.Pre_finite_mix.fn (F := Ideal) (m ((c.tc : Thread Cert.MixMemIdeal.nD Cert.MixMemIdeal.τ).loc Cert.MixMemIdeal.main_arg0)) (m ((c.tc : Thread Cert.MixMemIdeal.nD Cert.MixMemIdeal.τ).loc Cert.MixMemIdeal.main_arg1)) (m ((c.tc : Thread Cert.MixMemIdeal.nD Cert.MixMemIdeal.τ).loc Cert.MixMemIdeal.main_arg2)) (m ((c.tc : Thread Cert.MixMemIdeal.nD Cert.MixMemIdeal.τ).loc Cert.MixMemIdeal.main_arg3)) (m ((c.tc : Thread Cert.MixMemIdeal.nD Cert.MixMemIdeal.τ).loc Cert.MixMemIdeal.main_arg4)) (m ((c.tc : Thread Cert.MixMemIdeal.nD Cert.MixMemIdeal.τ).loc Cert.MixMemIdeal.main_arg5)) (m ((c.tc : Thread Cert.MixMemIdeal.nD Cert.MixMemIdeal.τ).loc Cert.MixMemIdeal.main_arg6)) (m ((c.tc : Thread Cert.MixMemIdeal.nD Cert.MixMemIdeal.τ).loc Cert.MixMemIdeal.main_arg7)) (m ((c.tc : Thread Cert.MixMemIdeal.nD Cert.MixMemIdeal.τ).loc Cert.MixMemIdeal.main_arg8)) (m ((c.tc : Thread Cert.MixMemIdeal.nD Cert.MixMemIdeal.τ).loc Cert.MixMemIdeal.main_arg9)) (m ((c.tc : Thread Cert.MixMemIdeal.nD Cert.MixMemIdeal.τ).loc Cert.MixMemIdeal.main_arg10)) (m ((c.tc : Thread Cert.MixMemIdeal.nD Cert.MixMemIdeal.τ).loc Cert.MixMemIdeal.main_arg11)) (m ((c.tc : Thread Cert.MixMemIdeal.nD Cert.MixMemIdeal.τ).loc Cert.MixMemIdeal.main_arg12)) (m ((c.tc : Thread Cert.MixMemIdeal.nD Cert.MixMemIdeal.τ).loc Cert.MixMemIdeal.main_arg13))).2 = (fun _ => 1#1)

def Pre_MixMemRefIdeal (m : (ℓ : Loc Cert.MixMemRefIdeal.nD Cert.MixMemRefIdeal.τ Cert.MixMemRefIdeal.sig) → Buf (Elt Ideal) ℓ) : Prop :=
  True

def Pre_MixMemRefIdeal_finite_mix [hPre_finite_mix : Cert.Pre_finite_mix.Facts] (m : (ℓ : Loc Cert.MixMemRefIdeal.nD Cert.MixMemRefIdeal.τ Cert.MixMemRefIdeal.sig) → Buf (Elt Ideal) ℓ) : Prop :=
  ∀ c : Dev Cert.MixMemRefIdeal.nD,
    (Cert.Pre_finite_mix.fn (F := Ideal) (m ((c.tc : Thread Cert.MixMemRefIdeal.nD Cert.MixMemRefIdeal.τ).loc Cert.MixMemRefIdeal.main_arg0)) (m ((c.tc : Thread Cert.MixMemRefIdeal.nD Cert.MixMemRefIdeal.τ).loc Cert.MixMemRefIdeal.main_arg1)) (m ((c.tc : Thread Cert.MixMemRefIdeal.nD Cert.MixMemRefIdeal.τ).loc Cert.MixMemRefIdeal.main_arg2)) (m ((c.tc : Thread Cert.MixMemRefIdeal.nD Cert.MixMemRefIdeal.τ).loc Cert.MixMemRefIdeal.main_arg3)) (m ((c.tc : Thread Cert.MixMemRefIdeal.nD Cert.MixMemRefIdeal.τ).loc Cert.MixMemRefIdeal.main_arg4)) (m ((c.tc : Thread Cert.MixMemRefIdeal.nD Cert.MixMemRefIdeal.τ).loc Cert.MixMemRefIdeal.main_arg5)) (m ((c.tc : Thread Cert.MixMemRefIdeal.nD Cert.MixMemRefIdeal.τ).loc Cert.MixMemRefIdeal.main_arg6)) (m ((c.tc : Thread Cert.MixMemRefIdeal.nD Cert.MixMemRefIdeal.τ).loc Cert.MixMemRefIdeal.main_arg7)) (m ((c.tc : Thread Cert.MixMemRefIdeal.nD Cert.MixMemRefIdeal.τ).loc Cert.MixMemRefIdeal.main_arg8)) (m ((c.tc : Thread Cert.MixMemRefIdeal.nD Cert.MixMemRefIdeal.τ).loc Cert.MixMemRefIdeal.main_arg9)) (m ((c.tc : Thread Cert.MixMemRefIdeal.nD Cert.MixMemRefIdeal.τ).loc Cert.MixMemRefIdeal.main_arg10)) (m ((c.tc : Thread Cert.MixMemRefIdeal.nD Cert.MixMemRefIdeal.τ).loc Cert.MixMemRefIdeal.main_arg11)) (m ((c.tc : Thread Cert.MixMemRefIdeal.nD Cert.MixMemRefIdeal.τ).loc Cert.MixMemRefIdeal.main_arg12)) (m ((c.tc : Thread Cert.MixMemRefIdeal.nD Cert.MixMemRefIdeal.τ).loc Cert.MixMemRefIdeal.main_arg13))).1 = (fun _ => 1#1)
    ∧ (Cert.Pre_finite_mix.fn (F := Ideal) (m ((c.tc : Thread Cert.MixMemRefIdeal.nD Cert.MixMemRefIdeal.τ).loc Cert.MixMemRefIdeal.main_arg0)) (m ((c.tc : Thread Cert.MixMemRefIdeal.nD Cert.MixMemRefIdeal.τ).loc Cert.MixMemRefIdeal.main_arg1)) (m ((c.tc : Thread Cert.MixMemRefIdeal.nD Cert.MixMemRefIdeal.τ).loc Cert.MixMemRefIdeal.main_arg2)) (m ((c.tc : Thread Cert.MixMemRefIdeal.nD Cert.MixMemRefIdeal.τ).loc Cert.MixMemRefIdeal.main_arg3)) (m ((c.tc : Thread Cert.MixMemRefIdeal.nD Cert.MixMemRefIdeal.τ).loc Cert.MixMemRefIdeal.main_arg4)) (m ((c.tc : Thread Cert.MixMemRefIdeal.nD Cert.MixMemRefIdeal.τ).loc Cert.MixMemRefIdeal.main_arg5)) (m ((c.tc : Thread Cert.MixMemRefIdeal.nD Cert.MixMemRefIdeal.τ).loc Cert.MixMemRefIdeal.main_arg6)) (m ((c.tc : Thread Cert.MixMemRefIdeal.nD Cert.MixMemRefIdeal.τ).loc Cert.MixMemRefIdeal.main_arg7)) (m ((c.tc : Thread Cert.MixMemRefIdeal.nD Cert.MixMemRefIdeal.τ).loc Cert.MixMemRefIdeal.main_arg8)) (m ((c.tc : Thread Cert.MixMemRefIdeal.nD Cert.MixMemRefIdeal.τ).loc Cert.MixMemRefIdeal.main_arg9)) (m ((c.tc : Thread Cert.MixMemRefIdeal.nD Cert.MixMemRefIdeal.τ).loc Cert.MixMemRefIdeal.main_arg10)) (m ((c.tc : Thread Cert.MixMemRefIdeal.nD Cert.MixMemRefIdeal.τ).loc Cert.MixMemRefIdeal.main_arg11)) (m ((c.tc : Thread Cert.MixMemRefIdeal.nD Cert.MixMemRefIdeal.τ).loc Cert.MixMemRefIdeal.main_arg12)) (m ((c.tc : Thread Cert.MixMemRefIdeal.nD Cert.MixMemRefIdeal.τ).loc Cert.MixMemRefIdeal.main_arg13))).2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_x [hInProjIdeal : Cert.InProjIdeal.Facts] [hPre_finite_x : Cert.Pre_finite_x.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_x m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite_x [hInProjRefIdeal : Cert.InProjRefIdeal.Facts] [hPre_finite_x : Cert.Pre_finite_x.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_x m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_MixMem [hMixMem : Cert.MixMem.Facts] : Prop :=
  ∀ (m : (ℓ : Loc Cert.MixMem.nD Cert.MixMem.τ Cert.MixMem.sig) → Buf (Elt Bits) ℓ) (g : Dev Cert.MixMem.nD → PrngReg), Pre_MixMem m →
    θ_run (Cert.MixMem.defs (F := Bits)) (onTc (τ := Cert.MixMem.τ) (Cert.MixMem.main (F := Bits))) ⟨m, fun _ => 0, g⟩ (fun r => (∀ c : Dev Cert.MixMem.nD,
      r.2.mem ((c.tc : Thread Cert.MixMem.nD Cert.MixMem.τ).loc Cert.MixMem.main_arg0) = m ((c.tc : Thread Cert.MixMem.nD Cert.MixMem.τ).loc Cert.MixMem.main_arg0)
      ∧ r.2.mem ((c.tc : Thread Cert.MixMem.nD Cert.MixMem.τ).loc Cert.MixMem.main_arg1) = m ((c.tc : Thread Cert.MixMem.nD Cert.MixMem.τ).loc Cert.MixMem.main_arg1)
      ∧ r.2.mem ((c.tc : Thread Cert.MixMem.nD Cert.MixMem.τ).loc Cert.MixMem.main_arg2) = m ((c.tc : Thread Cert.MixMem.nD Cert.MixMem.τ).loc Cert.MixMem.main_arg2)
      ∧ r.2.mem ((c.tc : Thread Cert.MixMem.nD Cert.MixMem.τ).loc Cert.MixMem.main_arg3) = m ((c.tc : Thread Cert.MixMem.nD Cert.MixMem.τ).loc Cert.MixMem.main_arg3)
      ∧ r.2.mem ((c.tc : Thread Cert.MixMem.nD Cert.MixMem.τ).loc Cert.MixMem.main_arg4) = m ((c.tc : Thread Cert.MixMem.nD Cert.MixMem.τ).loc Cert.MixMem.main_arg4)
      ∧ r.2.mem ((c.tc : Thread Cert.MixMem.nD Cert.MixMem.τ).loc Cert.MixMem.main_arg5) = m ((c.tc : Thread Cert.MixMem.nD Cert.MixMem.τ).loc Cert.MixMem.main_arg5)
      ∧ r.2.mem ((c.tc : Thread Cert.MixMem.nD Cert.MixMem.τ).loc Cert.MixMem.main_arg6) = m ((c.tc : Thread Cert.MixMem.nD Cert.MixMem.τ).loc Cert.MixMem.main_arg6)
      ∧ r.2.mem ((c.tc : Thread Cert.MixMem.nD Cert.MixMem.τ).loc Cert.MixMem.main_arg7) = m ((c.tc : Thread Cert.MixMem.nD Cert.MixMem.τ).loc Cert.MixMem.main_arg7)
      ∧ r.2.mem ((c.tc : Thread Cert.MixMem.nD Cert.MixMem.τ).loc Cert.MixMem.main_arg8) = m ((c.tc : Thread Cert.MixMem.nD Cert.MixMem.τ).loc Cert.MixMem.main_arg8)
      ∧ r.2.mem ((c.tc : Thread Cert.MixMem.nD Cert.MixMem.τ).loc Cert.MixMem.main_arg9) = m ((c.tc : Thread Cert.MixMem.nD Cert.MixMem.τ).loc Cert.MixMem.main_arg9)
      ∧ r.2.mem ((c.tc : Thread Cert.MixMem.nD Cert.MixMem.τ).loc Cert.MixMem.main_arg10) = m ((c.tc : Thread Cert.MixMem.nD Cert.MixMem.τ).loc Cert.MixMem.main_arg10)
      ∧ r.2.mem ((c.tc : Thread Cert.MixMem.nD Cert.MixMem.τ).loc Cert.MixMem.main_arg11) = m ((c.tc : Thread Cert.MixMem.nD Cert.MixMem.τ).loc Cert.MixMem.main_arg11)
      ∧ r.2.mem ((c.tc : Thread Cert.MixMem.nD Cert.MixMem.τ).loc Cert.MixMem.main_arg12) = m ((c.tc : Thread Cert.MixMem.nD Cert.MixMem.τ).loc Cert.MixMem.main_arg12)
      ∧ r.2.mem ((c.tc : Thread Cert.MixMem.nD Cert.MixMem.τ).loc Cert.MixMem.main_arg13) = m ((c.tc : Thread Cert.MixMem.nD Cert.MixMem.τ).loc Cert.MixMem.main_arg13))
      ∧ r.2.sem = fun _ => 0)

def quiescent_MixMemIdeal [hMixMemIdeal : Cert.MixMemIdeal.Facts] : Prop :=
  ∀ (m : (ℓ : Loc Cert.MixMemIdeal.nD Cert.MixMemIdeal.τ Cert.MixMemIdeal.sig) → Buf (Elt Ideal) ℓ) (g : Dev Cert.MixMemIdeal.nD → PrngReg), Pre_MixMemIdeal m →
    θ_run (Cert.MixMemIdeal.defs (F := Ideal)) (onTc (τ := Cert.MixMemIdeal.τ) (Cert.MixMemIdeal.main (F := Ideal))) ⟨m, fun _ => 0, g⟩ (fun r => (∀ c : Dev Cert.MixMemIdeal.nD,
      r.2.mem ((c.tc : Thread Cert.MixMemIdeal.nD Cert.MixMemIdeal.τ).loc Cert.MixMemIdeal.main_arg0) = m ((c.tc : Thread Cert.MixMemIdeal.nD Cert.MixMemIdeal.τ).loc Cert.MixMemIdeal.main_arg0)
      ∧ r.2.mem ((c.tc : Thread Cert.MixMemIdeal.nD Cert.MixMemIdeal.τ).loc Cert.MixMemIdeal.main_arg1) = m ((c.tc : Thread Cert.MixMemIdeal.nD Cert.MixMemIdeal.τ).loc Cert.MixMemIdeal.main_arg1)
      ∧ r.2.mem ((c.tc : Thread Cert.MixMemIdeal.nD Cert.MixMemIdeal.τ).loc Cert.MixMemIdeal.main_arg2) = m ((c.tc : Thread Cert.MixMemIdeal.nD Cert.MixMemIdeal.τ).loc Cert.MixMemIdeal.main_arg2)
      ∧ r.2.mem ((c.tc : Thread Cert.MixMemIdeal.nD Cert.MixMemIdeal.τ).loc Cert.MixMemIdeal.main_arg3) = m ((c.tc : Thread Cert.MixMemIdeal.nD Cert.MixMemIdeal.τ).loc Cert.MixMemIdeal.main_arg3)
      ∧ r.2.mem ((c.tc : Thread Cert.MixMemIdeal.nD Cert.MixMemIdeal.τ).loc Cert.MixMemIdeal.main_arg4) = m ((c.tc : Thread Cert.MixMemIdeal.nD Cert.MixMemIdeal.τ).loc Cert.MixMemIdeal.main_arg4)
      ∧ r.2.mem ((c.tc : Thread Cert.MixMemIdeal.nD Cert.MixMemIdeal.τ).loc Cert.MixMemIdeal.main_arg5) = m ((c.tc : Thread Cert.MixMemIdeal.nD Cert.MixMemIdeal.τ).loc Cert.MixMemIdeal.main_arg5)
      ∧ r.2.mem ((c.tc : Thread Cert.MixMemIdeal.nD Cert.MixMemIdeal.τ).loc Cert.MixMemIdeal.main_arg6) = m ((c.tc : Thread Cert.MixMemIdeal.nD Cert.MixMemIdeal.τ).loc Cert.MixMemIdeal.main_arg6)
      ∧ r.2.mem ((c.tc : Thread Cert.MixMemIdeal.nD Cert.MixMemIdeal.τ).loc Cert.MixMemIdeal.main_arg7) = m ((c.tc : Thread Cert.MixMemIdeal.nD Cert.MixMemIdeal.τ).loc Cert.MixMemIdeal.main_arg7)
      ∧ r.2.mem ((c.tc : Thread Cert.MixMemIdeal.nD Cert.MixMemIdeal.τ).loc Cert.MixMemIdeal.main_arg8) = m ((c.tc : Thread Cert.MixMemIdeal.nD Cert.MixMemIdeal.τ).loc Cert.MixMemIdeal.main_arg8)
      ∧ r.2.mem ((c.tc : Thread Cert.MixMemIdeal.nD Cert.MixMemIdeal.τ).loc Cert.MixMemIdeal.main_arg9) = m ((c.tc : Thread Cert.MixMemIdeal.nD Cert.MixMemIdeal.τ).loc Cert.MixMemIdeal.main_arg9)
      ∧ r.2.mem ((c.tc : Thread Cert.MixMemIdeal.nD Cert.MixMemIdeal.τ).loc Cert.MixMemIdeal.main_arg10) = m ((c.tc : Thread Cert.MixMemIdeal.nD Cert.MixMemIdeal.τ).loc Cert.MixMemIdeal.main_arg10)
      ∧ r.2.mem ((c.tc : Thread Cert.MixMemIdeal.nD Cert.MixMemIdeal.τ).loc Cert.MixMemIdeal.main_arg11) = m ((c.tc : Thread Cert.MixMemIdeal.nD Cert.MixMemIdeal.τ).loc Cert.MixMemIdeal.main_arg11)
      ∧ r.2.mem ((c.tc : Thread Cert.MixMemIdeal.nD Cert.MixMemIdeal.τ).loc Cert.MixMemIdeal.main_arg12) = m ((c.tc : Thread Cert.MixMemIdeal.nD Cert.MixMemIdeal.τ).loc Cert.MixMemIdeal.main_arg12)
      ∧ r.2.mem ((c.tc : Thread Cert.MixMemIdeal.nD Cert.MixMemIdeal.τ).loc Cert.MixMemIdeal.main_arg13) = m ((c.tc : Thread Cert.MixMemIdeal.nD Cert.MixMemIdeal.τ).loc Cert.MixMemIdeal.main_arg13))
      ∧ r.2.sem = fun _ => 0)

def quiescent_MixMemIdeal_pre_finite_mix [hMixMemIdeal : Cert.MixMemIdeal.Facts] [hPre_finite_mix : Cert.Pre_finite_mix.Facts] : Prop :=
  ∀ (m : (ℓ : Loc Cert.MixMemIdeal.nD Cert.MixMemIdeal.τ Cert.MixMemIdeal.sig) → Buf (Elt Ideal) ℓ) (g : Dev Cert.MixMemIdeal.nD → PrngReg), Pre_MixMemIdeal_finite_mix m →
    θ_run (Cert.MixMemIdeal.defs (F := Ideal)) (onTc (τ := Cert.MixMemIdeal.τ) (Cert.MixMemIdeal.main (F := Ideal))) ⟨m, fun _ => 0, g⟩ (fun r => (∀ c : Dev Cert.MixMemIdeal.nD,
      r.2.mem ((c.tc : Thread Cert.MixMemIdeal.nD Cert.MixMemIdeal.τ).loc Cert.MixMemIdeal.main_arg0) = m ((c.tc : Thread Cert.MixMemIdeal.nD Cert.MixMemIdeal.τ).loc Cert.MixMemIdeal.main_arg0)
      ∧ r.2.mem ((c.tc : Thread Cert.MixMemIdeal.nD Cert.MixMemIdeal.τ).loc Cert.MixMemIdeal.main_arg1) = m ((c.tc : Thread Cert.MixMemIdeal.nD Cert.MixMemIdeal.τ).loc Cert.MixMemIdeal.main_arg1)
      ∧ r.2.mem ((c.tc : Thread Cert.MixMemIdeal.nD Cert.MixMemIdeal.τ).loc Cert.MixMemIdeal.main_arg2) = m ((c.tc : Thread Cert.MixMemIdeal.nD Cert.MixMemIdeal.τ).loc Cert.MixMemIdeal.main_arg2)
      ∧ r.2.mem ((c.tc : Thread Cert.MixMemIdeal.nD Cert.MixMemIdeal.τ).loc Cert.MixMemIdeal.main_arg3) = m ((c.tc : Thread Cert.MixMemIdeal.nD Cert.MixMemIdeal.τ).loc Cert.MixMemIdeal.main_arg3)
      ∧ r.2.mem ((c.tc : Thread Cert.MixMemIdeal.nD Cert.MixMemIdeal.τ).loc Cert.MixMemIdeal.main_arg4) = m ((c.tc : Thread Cert.MixMemIdeal.nD Cert.MixMemIdeal.τ).loc Cert.MixMemIdeal.main_arg4)
      ∧ r.2.mem ((c.tc : Thread Cert.MixMemIdeal.nD Cert.MixMemIdeal.τ).loc Cert.MixMemIdeal.main_arg5) = m ((c.tc : Thread Cert.MixMemIdeal.nD Cert.MixMemIdeal.τ).loc Cert.MixMemIdeal.main_arg5)
      ∧ r.2.mem ((c.tc : Thread Cert.MixMemIdeal.nD Cert.MixMemIdeal.τ).loc Cert.MixMemIdeal.main_arg6) = m ((c.tc : Thread Cert.MixMemIdeal.nD Cert.MixMemIdeal.τ).loc Cert.MixMemIdeal.main_arg6)
      ∧ r.2.mem ((c.tc : Thread Cert.MixMemIdeal.nD Cert.MixMemIdeal.τ).loc Cert.MixMemIdeal.main_arg7) = m ((c.tc : Thread Cert.MixMemIdeal.nD Cert.MixMemIdeal.τ).loc Cert.MixMemIdeal.main_arg7)
      ∧ r.2.mem ((c.tc : Thread Cert.MixMemIdeal.nD Cert.MixMemIdeal.τ).loc Cert.MixMemIdeal.main_arg8) = m ((c.tc : Thread Cert.MixMemIdeal.nD Cert.MixMemIdeal.τ).loc Cert.MixMemIdeal.main_arg8)
      ∧ r.2.mem ((c.tc : Thread Cert.MixMemIdeal.nD Cert.MixMemIdeal.τ).loc Cert.MixMemIdeal.main_arg9) = m ((c.tc : Thread Cert.MixMemIdeal.nD Cert.MixMemIdeal.τ).loc Cert.MixMemIdeal.main_arg9)
      ∧ r.2.mem ((c.tc : Thread Cert.MixMemIdeal.nD Cert.MixMemIdeal.τ).loc Cert.MixMemIdeal.main_arg10) = m ((c.tc : Thread Cert.MixMemIdeal.nD Cert.MixMemIdeal.τ).loc Cert.MixMemIdeal.main_arg10)
      ∧ r.2.mem ((c.tc : Thread Cert.MixMemIdeal.nD Cert.MixMemIdeal.τ).loc Cert.MixMemIdeal.main_arg11) = m ((c.tc : Thread Cert.MixMemIdeal.nD Cert.MixMemIdeal.τ).loc Cert.MixMemIdeal.main_arg11)
      ∧ r.2.mem ((c.tc : Thread Cert.MixMemIdeal.nD Cert.MixMemIdeal.τ).loc Cert.MixMemIdeal.main_arg12) = m ((c.tc : Thread Cert.MixMemIdeal.nD Cert.MixMemIdeal.τ).loc Cert.MixMemIdeal.main_arg12)
      ∧ r.2.mem ((c.tc : Thread Cert.MixMemIdeal.nD Cert.MixMemIdeal.τ).loc Cert.MixMemIdeal.main_arg13) = m ((c.tc : Thread Cert.MixMemIdeal.nD Cert.MixMemIdeal.τ).loc Cert.MixMemIdeal.main_arg13))
      ∧ r.2.sem = fun _ => 0)

def quiescent_MixMemRefIdeal [hMixMemRefIdeal : Cert.MixMemRefIdeal.Facts] : Prop :=
  ∀ (m : (ℓ : Loc Cert.MixMemRefIdeal.nD Cert.MixMemRefIdeal.τ Cert.MixMemRefIdeal.sig) → Buf (Elt Ideal) ℓ) (g : Dev Cert.MixMemRefIdeal.nD → PrngReg), Pre_MixMemRefIdeal m →
    θ_run (Cert.MixMemRefIdeal.defs (F := Ideal)) (onTc (τ := Cert.MixMemRefIdeal.τ) (Cert.MixMemRefIdeal.main (F := Ideal))) ⟨m, fun _ => 0, g⟩ (fun r => (∀ c : Dev Cert.MixMemRefIdeal.nD,
      r.2.mem ((c.tc : Thread Cert.MixMemRefIdeal.nD Cert.MixMemRefIdeal.τ).loc Cert.MixMemRefIdeal.main_arg0) = m ((c.tc : Thread Cert.MixMemRefIdeal.nD Cert.MixMemRefIdeal.τ).loc Cert.MixMemRefIdeal.main_arg0)
      ∧ r.2.mem ((c.tc : Thread Cert.MixMemRefIdeal.nD Cert.MixMemRefIdeal.τ).loc Cert.MixMemRefIdeal.main_arg1) = m ((c.tc : Thread Cert.MixMemRefIdeal.nD Cert.MixMemRefIdeal.τ).loc Cert.MixMemRefIdeal.main_arg1)
      ∧ r.2.mem ((c.tc : Thread Cert.MixMemRefIdeal.nD Cert.MixMemRefIdeal.τ).loc Cert.MixMemRefIdeal.main_arg2) = m ((c.tc : Thread Cert.MixMemRefIdeal.nD Cert.MixMemRefIdeal.τ).loc Cert.MixMemRefIdeal.main_arg2)
      ∧ r.2.mem ((c.tc : Thread Cert.MixMemRefIdeal.nD Cert.MixMemRefIdeal.τ).loc Cert.MixMemRefIdeal.main_arg3) = m ((c.tc : Thread Cert.MixMemRefIdeal.nD Cert.MixMemRefIdeal.τ).loc Cert.MixMemRefIdeal.main_arg3)
      ∧ r.2.mem ((c.tc : Thread Cert.MixMemRefIdeal.nD Cert.MixMemRefIdeal.τ).loc Cert.MixMemRefIdeal.main_arg4) = m ((c.tc : Thread Cert.MixMemRefIdeal.nD Cert.MixMemRefIdeal.τ).loc Cert.MixMemRefIdeal.main_arg4)
      ∧ r.2.mem ((c.tc : Thread Cert.MixMemRefIdeal.nD Cert.MixMemRefIdeal.τ).loc Cert.MixMemRefIdeal.main_arg5) = m ((c.tc : Thread Cert.MixMemRefIdeal.nD Cert.MixMemRefIdeal.τ).loc Cert.MixMemRefIdeal.main_arg5)
      ∧ r.2.mem ((c.tc : Thread Cert.MixMemRefIdeal.nD Cert.MixMemRefIdeal.τ).loc Cert.MixMemRefIdeal.main_arg6) = m ((c.tc : Thread Cert.MixMemRefIdeal.nD Cert.MixMemRefIdeal.τ).loc Cert.MixMemRefIdeal.main_arg6)
      ∧ r.2.mem ((c.tc : Thread Cert.MixMemRefIdeal.nD Cert.MixMemRefIdeal.τ).loc Cert.MixMemRefIdeal.main_arg7) = m ((c.tc : Thread Cert.MixMemRefIdeal.nD Cert.MixMemRefIdeal.τ).loc Cert.MixMemRefIdeal.main_arg7)
      ∧ r.2.mem ((c.tc : Thread Cert.MixMemRefIdeal.nD Cert.MixMemRefIdeal.τ).loc Cert.MixMemRefIdeal.main_arg8) = m ((c.tc : Thread Cert.MixMemRefIdeal.nD Cert.MixMemRefIdeal.τ).loc Cert.MixMemRefIdeal.main_arg8)
      ∧ r.2.mem ((c.tc : Thread Cert.MixMemRefIdeal.nD Cert.MixMemRefIdeal.τ).loc Cert.MixMemRefIdeal.main_arg9) = m ((c.tc : Thread Cert.MixMemRefIdeal.nD Cert.MixMemRefIdeal.τ).loc Cert.MixMemRefIdeal.main_arg9)
      ∧ r.2.mem ((c.tc : Thread Cert.MixMemRefIdeal.nD Cert.MixMemRefIdeal.τ).loc Cert.MixMemRefIdeal.main_arg10) = m ((c.tc : Thread Cert.MixMemRefIdeal.nD Cert.MixMemRefIdeal.τ).loc Cert.MixMemRefIdeal.main_arg10)
      ∧ r.2.mem ((c.tc : Thread Cert.MixMemRefIdeal.nD Cert.MixMemRefIdeal.τ).loc Cert.MixMemRefIdeal.main_arg11) = m ((c.tc : Thread Cert.MixMemRefIdeal.nD Cert.MixMemRefIdeal.τ).loc Cert.MixMemRefIdeal.main_arg11)
      ∧ r.2.mem ((c.tc : Thread Cert.MixMemRefIdeal.nD Cert.MixMemRefIdeal.τ).loc Cert.MixMemRefIdeal.main_arg12) = m ((c.tc : Thread Cert.MixMemRefIdeal.nD Cert.MixMemRefIdeal.τ).loc Cert.MixMemRefIdeal.main_arg12)
      ∧ r.2.mem ((c.tc : Thread Cert.MixMemRefIdeal.nD Cert.MixMemRefIdeal.τ).loc Cert.MixMemRefIdeal.main_arg13) = m ((c.tc : Thread Cert.MixMemRefIdeal.nD Cert.MixMemRefIdeal.τ).loc Cert.MixMemRefIdeal.main_arg13))
      ∧ r.2.sem = fun _ => 0)

def quiescent_MixMemRefIdeal_pre_finite_mix [hMixMemRefIdeal : Cert.MixMemRefIdeal.Facts] [hPre_finite_mix : Cert.Pre_finite_mix.Facts] : Prop :=
  ∀ (m : (ℓ : Loc Cert.MixMemRefIdeal.nD Cert.MixMemRefIdeal.τ Cert.MixMemRefIdeal.sig) → Buf (Elt Ideal) ℓ) (g : Dev Cert.MixMemRefIdeal.nD → PrngReg), Pre_MixMemRefIdeal_finite_mix m →
    θ_run (Cert.MixMemRefIdeal.defs (F := Ideal)) (onTc (τ := Cert.MixMemRefIdeal.τ) (Cert.MixMemRefIdeal.main (F := Ideal))) ⟨m, fun _ => 0, g⟩ (fun r => (∀ c : Dev Cert.MixMemRefIdeal.nD,
      r.2.mem ((c.tc : Thread Cert.MixMemRefIdeal.nD Cert.MixMemRefIdeal.τ).loc Cert.MixMemRefIdeal.main_arg0) = m ((c.tc : Thread Cert.MixMemRefIdeal.nD Cert.MixMemRefIdeal.τ).loc Cert.MixMemRefIdeal.main_arg0)
      ∧ r.2.mem ((c.tc : Thread Cert.MixMemRefIdeal.nD Cert.MixMemRefIdeal.τ).loc Cert.MixMemRefIdeal.main_arg1) = m ((c.tc : Thread Cert.MixMemRefIdeal.nD Cert.MixMemRefIdeal.τ).loc Cert.MixMemRefIdeal.main_arg1)
      ∧ r.2.mem ((c.tc : Thread Cert.MixMemRefIdeal.nD Cert.MixMemRefIdeal.τ).loc Cert.MixMemRefIdeal.main_arg2) = m ((c.tc : Thread Cert.MixMemRefIdeal.nD Cert.MixMemRefIdeal.τ).loc Cert.MixMemRefIdeal.main_arg2)
      ∧ r.2.mem ((c.tc : Thread Cert.MixMemRefIdeal.nD Cert.MixMemRefIdeal.τ).loc Cert.MixMemRefIdeal.main_arg3) = m ((c.tc : Thread Cert.MixMemRefIdeal.nD Cert.MixMemRefIdeal.τ).loc Cert.MixMemRefIdeal.main_arg3)
      ∧ r.2.mem ((c.tc : Thread Cert.MixMemRefIdeal.nD Cert.MixMemRefIdeal.τ).loc Cert.MixMemRefIdeal.main_arg4) = m ((c.tc : Thread Cert.MixMemRefIdeal.nD Cert.MixMemRefIdeal.τ).loc Cert.MixMemRefIdeal.main_arg4)
      ∧ r.2.mem ((c.tc : Thread Cert.MixMemRefIdeal.nD Cert.MixMemRefIdeal.τ).loc Cert.MixMemRefIdeal.main_arg5) = m ((c.tc : Thread Cert.MixMemRefIdeal.nD Cert.MixMemRefIdeal.τ).loc Cert.MixMemRefIdeal.main_arg5)
      ∧ r.2.mem ((c.tc : Thread Cert.MixMemRefIdeal.nD Cert.MixMemRefIdeal.τ).loc Cert.MixMemRefIdeal.main_arg6) = m ((c.tc : Thread Cert.MixMemRefIdeal.nD Cert.MixMemRefIdeal.τ).loc Cert.MixMemRefIdeal.main_arg6)
      ∧ r.2.mem ((c.tc : Thread Cert.MixMemRefIdeal.nD Cert.MixMemRefIdeal.τ).loc Cert.MixMemRefIdeal.main_arg7) = m ((c.tc : Thread Cert.MixMemRefIdeal.nD Cert.MixMemRefIdeal.τ).loc Cert.MixMemRefIdeal.main_arg7)
      ∧ r.2.mem ((c.tc : Thread Cert.MixMemRefIdeal.nD Cert.MixMemRefIdeal.τ).loc Cert.MixMemRefIdeal.main_arg8) = m ((c.tc : Thread Cert.MixMemRefIdeal.nD Cert.MixMemRefIdeal.τ).loc Cert.MixMemRefIdeal.main_arg8)
      ∧ r.2.mem ((c.tc : Thread Cert.MixMemRefIdeal.nD Cert.MixMemRefIdeal.τ).loc Cert.MixMemRefIdeal.main_arg9) = m ((c.tc : Thread Cert.MixMemRefIdeal.nD Cert.MixMemRefIdeal.τ).loc Cert.MixMemRefIdeal.main_arg9)
      ∧ r.2.mem ((c.tc : Thread Cert.MixMemRefIdeal.nD Cert.MixMemRefIdeal.τ).loc Cert.MixMemRefIdeal.main_arg10) = m ((c.tc : Thread Cert.MixMemRefIdeal.nD Cert.MixMemRefIdeal.τ).loc Cert.MixMemRefIdeal.main_arg10)
      ∧ r.2.mem ((c.tc : Thread Cert.MixMemRefIdeal.nD Cert.MixMemRefIdeal.τ).loc Cert.MixMemRefIdeal.main_arg11) = m ((c.tc : Thread Cert.MixMemRefIdeal.nD Cert.MixMemRefIdeal.τ).loc Cert.MixMemRefIdeal.main_arg11)
      ∧ r.2.mem ((c.tc : Thread Cert.MixMemRefIdeal.nD Cert.MixMemRefIdeal.τ).loc Cert.MixMemRefIdeal.main_arg12) = m ((c.tc : Thread Cert.MixMemRefIdeal.nD Cert.MixMemRefIdeal.τ).loc Cert.MixMemRefIdeal.main_arg12)
      ∧ r.2.mem ((c.tc : Thread Cert.MixMemRefIdeal.nD Cert.MixMemRefIdeal.τ).loc Cert.MixMemRefIdeal.main_arg13) = m ((c.tc : Thread Cert.MixMemRefIdeal.nD Cert.MixMemRefIdeal.τ).loc Cert.MixMemRefIdeal.main_arg13))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3)
      ∧ r.2.mem ((c.tc : Thread Cert.MemKv.nD Cert.MemKv.τ).loc Cert.MemKv.main_arg4) = m ((c.tc : Thread Cert.MemKv.nD Cert.MemKv.τ).loc Cert.MemKv.main_arg4))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
      ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3)
      ∧ r.2.mem ((c.tc : Thread Cert.MemKvRefIdeal.nD Cert.MemKvRefIdeal.τ).loc Cert.MemKvRefIdeal.main_arg4) = m ((c.tc : Thread Cert.MemKvRefIdeal.nD Cert.MemKvRefIdeal.τ).loc Cert.MemKvRefIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v36)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v36) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_InProj_InProjIdeal : Prop :=
  True

def algebraic_InProjIdeal_InProjRefIdeal_pre_finite_x [hInProjIdeal : Cert.InProjIdeal.Facts] [hInProjRefIdeal : Cert.InProjRefIdeal.Facts] [hPre_finite_x : Cert.Pre_finite_x.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_x m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)) (v2 : (c : Dev Cert.InProjIdeal.nD) → Buf (Elt Ideal) ((c.tc : Thread Cert.InProjIdeal.nD Cert.InProjIdeal.τ).loc Cert.InProjIdeal.main_v20_2)) (v3 : (c : Dev Cert.InProjIdeal.nD) → Buf (Elt Ideal) ((c.tc : Thread Cert.InProjIdeal.nD Cert.InProjIdeal.τ).loc Cert.InProjIdeal.main_v20_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_v20_2) = v2 c
          ∧ r.2.mem ((c.tc : Thread Cert.InProjIdeal.nD Cert.InProjIdeal.τ).loc Cert.InProjIdeal.main_v20_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v49) = v0 c
          ∧ r.2.mem ((c.tc : Thread Cert.InProjRefIdeal.nD Cert.InProjRefIdeal.τ).loc Cert.InProjRefIdeal.main_v51) = v1 c
          ∧ r.2.mem ((c.tc : Thread Cert.InProjRefIdeal.nD Cert.InProjRefIdeal.τ).loc Cert.InProjRefIdeal.main_v53) = v2 c
          ∧ r.2.mem ((c.tc : Thread Cert.InProjRefIdeal.nD Cert.InProjRefIdeal.τ).loc Cert.InProjRefIdeal.main_v54) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_MixMem_MixMemIdeal : Prop :=
  True

def algebraic_MixMemIdeal_MixMemRefIdeal_pre_finite_mix [hMixMemIdeal : Cert.MixMemIdeal.Facts] [hMixMemRefIdeal : Cert.MixMemRefIdeal.Facts] [hPre_finite_mix : Cert.Pre_finite_mix.Facts] : Prop :=
  ∀ (m : (ℓ : Loc Cert.MixMemIdeal.nD Cert.MixMemIdeal.τ Cert.MixMemIdeal.sig) → Buf (Elt Ideal) ℓ) (g : Dev Cert.MixMemIdeal.nD → PrngReg)
    (m' : (ℓ : Loc Cert.MixMemRefIdeal.nD Cert.MixMemRefIdeal.τ Cert.MixMemRefIdeal.sig) → Buf (Elt Ideal) ℓ) (g' : Dev Cert.MixMemRefIdeal.nD → PrngReg), Pre_MixMemIdeal_finite_mix m →
    (∀ c : Dev Cert.MixMemIdeal.nD,
      m' ((c.tc : Thread Cert.MixMemRefIdeal.nD Cert.MixMemRefIdeal.τ).loc Cert.MixMemRefIdeal.main_arg0) = m ((c.tc : Thread Cert.MixMemIdeal.nD Cert.MixMemIdeal.τ).loc Cert.MixMemIdeal.main_arg0)
      ∧ m' ((c.tc : Thread Cert.MixMemRefIdeal.nD Cert.MixMemRefIdeal.τ).loc Cert.MixMemRefIdeal.main_arg1) = m ((c.tc : Thread Cert.MixMemIdeal.nD Cert.MixMemIdeal.τ).loc Cert.MixMemIdeal.main_arg1)
      ∧ m' ((c.tc : Thread Cert.MixMemRefIdeal.nD Cert.MixMemRefIdeal.τ).loc Cert.MixMemRefIdeal.main_arg2) = m ((c.tc : Thread Cert.MixMemIdeal.nD Cert.MixMemIdeal.τ).loc Cert.MixMemIdeal.main_arg2)
      ∧ m' ((c.tc : Thread Cert.MixMemRefIdeal.nD Cert.MixMemRefIdeal.τ).loc Cert.MixMemRefIdeal.main_arg3) = m ((c.tc : Thread Cert.MixMemIdeal.nD Cert.MixMemIdeal.τ).loc Cert.MixMemIdeal.main_arg3)
      ∧ m' ((c.tc : Thread Cert.MixMemRefIdeal.nD Cert.MixMemRefIdeal.τ).loc Cert.MixMemRefIdeal.main_arg4) = m ((c.tc : Thread Cert.MixMemIdeal.nD Cert.MixMemIdeal.τ).loc Cert.MixMemIdeal.main_arg4)
      ∧ m' ((c.tc : Thread Cert.MixMemRefIdeal.nD Cert.MixMemRefIdeal.τ).loc Cert.MixMemRefIdeal.main_arg5) = m ((c.tc : Thread Cert.MixMemIdeal.nD Cert.MixMemIdeal.τ).loc Cert.MixMemIdeal.main_arg5)
      ∧ m' ((c.tc : Thread Cert.MixMemRefIdeal.nD Cert.MixMemRefIdeal.τ).loc Cert.MixMemRefIdeal.main_arg6) = m ((c.tc : Thread Cert.MixMemIdeal.nD Cert.MixMemIdeal.τ).loc Cert.MixMemIdeal.main_arg6)
      ∧ m' ((c.tc : Thread Cert.MixMemRefIdeal.nD Cert.MixMemRefIdeal.τ).loc Cert.MixMemRefIdeal.main_arg7) = m ((c.tc : Thread Cert.MixMemIdeal.nD Cert.MixMemIdeal.τ).loc Cert.MixMemIdeal.main_arg7)
      ∧ m' ((c.tc : Thread Cert.MixMemRefIdeal.nD Cert.MixMemRefIdeal.τ).loc Cert.MixMemRefIdeal.main_arg8) = m ((c.tc : Thread Cert.MixMemIdeal.nD Cert.MixMemIdeal.τ).loc Cert.MixMemIdeal.main_arg8)
      ∧ m' ((c.tc : Thread Cert.MixMemRefIdeal.nD Cert.MixMemRefIdeal.τ).loc Cert.MixMemRefIdeal.main_arg9) = m ((c.tc : Thread Cert.MixMemIdeal.nD Cert.MixMemIdeal.τ).loc Cert.MixMemIdeal.main_arg9)
      ∧ m' ((c.tc : Thread Cert.MixMemRefIdeal.nD Cert.MixMemRefIdeal.τ).loc Cert.MixMemRefIdeal.main_arg10) = m ((c.tc : Thread Cert.MixMemIdeal.nD Cert.MixMemIdeal.τ).loc Cert.MixMemIdeal.main_arg10)
      ∧ m' ((c.tc : Thread Cert.MixMemRefIdeal.nD Cert.MixMemRefIdeal.τ).loc Cert.MixMemRefIdeal.main_arg11) = m ((c.tc : Thread Cert.MixMemIdeal.nD Cert.MixMemIdeal.τ).loc Cert.MixMemIdeal.main_arg11)
      ∧ m' ((c.tc : Thread Cert.MixMemRefIdeal.nD Cert.MixMemRefIdeal.τ).loc Cert.MixMemRefIdeal.main_arg12) = m ((c.tc : Thread Cert.MixMemIdeal.nD Cert.MixMemIdeal.τ).loc Cert.MixMemIdeal.main_arg12)
      ∧ m' ((c.tc : Thread Cert.MixMemRefIdeal.nD Cert.MixMemRefIdeal.τ).loc Cert.MixMemRefIdeal.main_arg13) = m ((c.tc : Thread Cert.MixMemIdeal.nD Cert.MixMemIdeal.τ).loc Cert.MixMemIdeal.main_arg13)) →
    ∃ (v0 : (c : Dev Cert.MixMemIdeal.nD) → Buf (Elt Ideal) ((c.tc : Thread Cert.MixMemIdeal.nD Cert.MixMemIdeal.τ).loc Cert.MixMemIdeal.main_v15)),
      θ_run (Cert.MixMemIdeal.defs (F := Ideal)) (onTc (τ := Cert.MixMemIdeal.τ) (Cert.MixMemIdeal.main (F := Ideal))) ⟨m, fun _ => 0, g⟩ (fun r => ∀ c : Dev Cert.MixMemIdeal.nD,
          r.2.mem ((c.tc : Thread Cert.MixMemIdeal.nD Cert.MixMemIdeal.τ).loc Cert.MixMemIdeal.main_v15) = v0 c
          ∧ r.2.mem ((c.tc : Thread Cert.MixMemIdeal.nD Cert.MixMemIdeal.τ).loc Cert.MixMemIdeal.main_arg0) = m ((c.tc : Thread Cert.MixMemIdeal.nD Cert.MixMemIdeal.τ).loc Cert.MixMemIdeal.main_arg0)
          ∧ r.2.mem ((c.tc : Thread Cert.MixMemIdeal.nD Cert.MixMemIdeal.τ).loc Cert.MixMemIdeal.main_arg1) = m ((c.tc : Thread Cert.MixMemIdeal.nD Cert.MixMemIdeal.τ).loc Cert.MixMemIdeal.main_arg1)
          ∧ r.2.mem ((c.tc : Thread Cert.MixMemIdeal.nD Cert.MixMemIdeal.τ).loc Cert.MixMemIdeal.main_arg2) = m ((c.tc : Thread Cert.MixMemIdeal.nD Cert.MixMemIdeal.τ).loc Cert.MixMemIdeal.main_arg2)
          ∧ r.2.mem ((c.tc : Thread Cert.MixMemIdeal.nD Cert.MixMemIdeal.τ).loc Cert.MixMemIdeal.main_arg3) = m ((c.tc : Thread Cert.MixMemIdeal.nD Cert.MixMemIdeal.τ).loc Cert.MixMemIdeal.main_arg3)
          ∧ r.2.mem ((c.tc : Thread Cert.MixMemIdeal.nD Cert.MixMemIdeal.τ).loc Cert.MixMemIdeal.main_arg4) = m ((c.tc : Thread Cert.MixMemIdeal.nD Cert.MixMemIdeal.τ).loc Cert.MixMemIdeal.main_arg4)
          ∧ r.2.mem ((c.tc : Thread Cert.MixMemIdeal.nD Cert.MixMemIdeal.τ).loc Cert.MixMemIdeal.main_arg5) = m ((c.tc : Thread Cert.MixMemIdeal.nD Cert.MixMemIdeal.τ).loc Cert.MixMemIdeal.main_arg5)
          ∧ r.2.mem ((c.tc : Thread Cert.MixMemIdeal.nD Cert.MixMemIdeal.τ).loc Cert.MixMemIdeal.main_arg6) = m ((c.tc : Thread Cert.MixMemIdeal.nD Cert.MixMemIdeal.τ).loc Cert.MixMemIdeal.main_arg6)
          ∧ r.2.mem ((c.tc : Thread Cert.MixMemIdeal.nD Cert.MixMemIdeal.τ).loc Cert.MixMemIdeal.main_arg7) = m ((c.tc : Thread Cert.MixMemIdeal.nD Cert.MixMemIdeal.τ).loc Cert.MixMemIdeal.main_arg7)
          ∧ r.2.mem ((c.tc : Thread Cert.MixMemIdeal.nD Cert.MixMemIdeal.τ).loc Cert.MixMemIdeal.main_arg8) = m ((c.tc : Thread Cert.MixMemIdeal.nD Cert.MixMemIdeal.τ).loc Cert.MixMemIdeal.main_arg8)
          ∧ r.2.mem ((c.tc : Thread Cert.MixMemIdeal.nD Cert.MixMemIdeal.τ).loc Cert.MixMemIdeal.main_arg9) = m ((c.tc : Thread Cert.MixMemIdeal.nD Cert.MixMemIdeal.τ).loc Cert.MixMemIdeal.main_arg9)
          ∧ r.2.mem ((c.tc : Thread Cert.MixMemIdeal.nD Cert.MixMemIdeal.τ).loc Cert.MixMemIdeal.main_arg10) = m ((c.tc : Thread Cert.MixMemIdeal.nD Cert.MixMemIdeal.τ).loc Cert.MixMemIdeal.main_arg10)
          ∧ r.2.mem ((c.tc : Thread Cert.MixMemIdeal.nD Cert.MixMemIdeal.τ).loc Cert.MixMemIdeal.main_arg11) = m ((c.tc : Thread Cert.MixMemIdeal.nD Cert.MixMemIdeal.τ).loc Cert.MixMemIdeal.main_arg11)
          ∧ r.2.mem ((c.tc : Thread Cert.MixMemIdeal.nD Cert.MixMemIdeal.τ).loc Cert.MixMemIdeal.main_arg12) = m ((c.tc : Thread Cert.MixMemIdeal.nD Cert.MixMemIdeal.τ).loc Cert.MixMemIdeal.main_arg12)
          ∧ r.2.mem ((c.tc : Thread Cert.MixMemIdeal.nD Cert.MixMemIdeal.τ).loc Cert.MixMemIdeal.main_arg13) = m ((c.tc : Thread Cert.MixMemIdeal.nD Cert.MixMemIdeal.τ).loc Cert.MixMemIdeal.main_arg13))
      ∧ θ_run (Cert.MixMemRefIdeal.defs (F := Ideal)) (onTc (τ := Cert.MixMemRefIdeal.τ) (Cert.MixMemRefIdeal.main (F := Ideal))) ⟨m', fun _ => 0, g'⟩ (fun r => ∀ c : Dev Cert.MixMemRefIdeal.nD,
          r.2.mem ((c.tc : Thread Cert.MixMemRefIdeal.nD Cert.MixMemRefIdeal.τ).loc Cert.MixMemRefIdeal.main_v96) = v0 c
          ∧ r.2.mem ((c.tc : Thread Cert.MixMemRefIdeal.nD Cert.MixMemRefIdeal.τ).loc Cert.MixMemRefIdeal.main_arg0) = m' ((c.tc : Thread Cert.MixMemRefIdeal.nD Cert.MixMemRefIdeal.τ).loc Cert.MixMemRefIdeal.main_arg0)
          ∧ r.2.mem ((c.tc : Thread Cert.MixMemRefIdeal.nD Cert.MixMemRefIdeal.τ).loc Cert.MixMemRefIdeal.main_arg1) = m' ((c.tc : Thread Cert.MixMemRefIdeal.nD Cert.MixMemRefIdeal.τ).loc Cert.MixMemRefIdeal.main_arg1)
          ∧ r.2.mem ((c.tc : Thread Cert.MixMemRefIdeal.nD Cert.MixMemRefIdeal.τ).loc Cert.MixMemRefIdeal.main_arg2) = m' ((c.tc : Thread Cert.MixMemRefIdeal.nD Cert.MixMemRefIdeal.τ).loc Cert.MixMemRefIdeal.main_arg2)
          ∧ r.2.mem ((c.tc : Thread Cert.MixMemRefIdeal.nD Cert.MixMemRefIdeal.τ).loc Cert.MixMemRefIdeal.main_arg3) = m' ((c.tc : Thread Cert.MixMemRefIdeal.nD Cert.MixMemRefIdeal.τ).loc Cert.MixMemRefIdeal.main_arg3)
          ∧ r.2.mem ((c.tc : Thread Cert.MixMemRefIdeal.nD Cert.MixMemRefIdeal.τ).loc Cert.MixMemRefIdeal.main_arg4) = m' ((c.tc : Thread Cert.MixMemRefIdeal.nD Cert.MixMemRefIdeal.τ).loc Cert.MixMemRefIdeal.main_arg4)
          ∧ r.2.mem ((c.tc : Thread Cert.MixMemRefIdeal.nD Cert.MixMemRefIdeal.τ).loc Cert.MixMemRefIdeal.main_arg5) = m' ((c.tc : Thread Cert.MixMemRefIdeal.nD Cert.MixMemRefIdeal.τ).loc Cert.MixMemRefIdeal.main_arg5)
          ∧ r.2.mem ((c.tc : Thread Cert.MixMemRefIdeal.nD Cert.MixMemRefIdeal.τ).loc Cert.MixMemRefIdeal.main_arg6) = m' ((c.tc : Thread Cert.MixMemRefIdeal.nD Cert.MixMemRefIdeal.τ).loc Cert.MixMemRefIdeal.main_arg6)
          ∧ r.2.mem ((c.tc : Thread Cert.MixMemRefIdeal.nD Cert.MixMemRefIdeal.τ).loc Cert.MixMemRefIdeal.main_arg7) = m' ((c.tc : Thread Cert.MixMemRefIdeal.nD Cert.MixMemRefIdeal.τ).loc Cert.MixMemRefIdeal.main_arg7)
          ∧ r.2.mem ((c.tc : Thread Cert.MixMemRefIdeal.nD Cert.MixMemRefIdeal.τ).loc Cert.MixMemRefIdeal.main_arg8) = m' ((c.tc : Thread Cert.MixMemRefIdeal.nD Cert.MixMemRefIdeal.τ).loc Cert.MixMemRefIdeal.main_arg8)
          ∧ r.2.mem ((c.tc : Thread Cert.MixMemRefIdeal.nD Cert.MixMemRefIdeal.τ).loc Cert.MixMemRefIdeal.main_arg9) = m' ((c.tc : Thread Cert.MixMemRefIdeal.nD Cert.MixMemRefIdeal.τ).loc Cert.MixMemRefIdeal.main_arg9)
          ∧ r.2.mem ((c.tc : Thread Cert.MixMemRefIdeal.nD Cert.MixMemRefIdeal.τ).loc Cert.MixMemRefIdeal.main_arg10) = m' ((c.tc : Thread Cert.MixMemRefIdeal.nD Cert.MixMemRefIdeal.τ).loc Cert.MixMemRefIdeal.main_arg10)
          ∧ r.2.mem ((c.tc : Thread Cert.MixMemRefIdeal.nD Cert.MixMemRefIdeal.τ).loc Cert.MixMemRefIdeal.main_arg11) = m' ((c.tc : Thread Cert.MixMemRefIdeal.nD Cert.MixMemRefIdeal.τ).loc Cert.MixMemRefIdeal.main_arg11)
          ∧ r.2.mem ((c.tc : Thread Cert.MixMemRefIdeal.nD Cert.MixMemRefIdeal.τ).loc Cert.MixMemRefIdeal.main_arg12) = m' ((c.tc : Thread Cert.MixMemRefIdeal.nD Cert.MixMemRefIdeal.τ).loc Cert.MixMemRefIdeal.main_arg12)
          ∧ r.2.mem ((c.tc : Thread Cert.MixMemRefIdeal.nD Cert.MixMemRefIdeal.τ).loc Cert.MixMemRefIdeal.main_arg13) = m' ((c.tc : Thread Cert.MixMemRefIdeal.nD Cert.MixMemRefIdeal.τ).loc Cert.MixMemRefIdeal.main_arg13))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)
      ∧ m' ((c.tc : Thread Cert.MemKvRefIdeal.nD Cert.MemKvRefIdeal.τ).loc Cert.MemKvRefIdeal.main_arg4) = m ((c.tc : Thread Cert.MemKvIdeal.nD Cert.MemKvIdeal.τ).loc Cert.MemKvIdeal.main_arg4)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
          ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v31) = v0 c
          ∧ r.2.mem ((c.tc : Thread Cert.MemKvRefIdeal.nD Cert.MemKvRefIdeal.τ).loc Cert.MemKvRefIdeal.main_v33) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3)
          ∧ r.2.mem ((c.tc : Thread Cert.MemKvRefIdeal.nD Cert.MemKvRefIdeal.τ).loc Cert.MemKvRefIdeal.main_arg4) = m' ((c.tc : Thread Cert.MemKvRefIdeal.nD Cert.MemKvRefIdeal.τ).loc Cert.MemKvRefIdeal.main_arg4))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMixMem : Cert.MixMem.Facts) (hMixMemIdeal : Cert.MixMemIdeal.Facts) (hMixMemRefIdeal : Cert.MixMemRefIdeal.Facts) (hMemKv : Cert.MemKv.Facts) (hMemKvIdeal : Cert.MemKvIdeal.Facts) (hMemKvRefIdeal : Cert.MemKvRefIdeal.Facts) (hPre_finite_qk : Cert.Pre_finite_qk.Facts) (hPre_finite_x : Cert.Pre_finite_x.Facts) (hPre_finite_mix : Cert.Pre_finite_mix.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_InProj (hInProj := hInProj)
    ∧ quiescent_InProjIdeal (hInProjIdeal := hInProjIdeal)
    ∧ quiescent_InProjIdeal_pre_finite_x (hInProjIdeal := hInProjIdeal) (hPre_finite_x := hPre_finite_x)
    ∧ quiescent_InProjRefIdeal (hInProjRefIdeal := hInProjRefIdeal)
    ∧ quiescent_InProjRefIdeal_pre_finite_x (hInProjRefIdeal := hInProjRefIdeal) (hPre_finite_x := hPre_finite_x)
    ∧ quiescent_MixMem (hMixMem := hMixMem)
    ∧ quiescent_MixMemIdeal (hMixMemIdeal := hMixMemIdeal)
    ∧ quiescent_MixMemIdeal_pre_finite_mix (hMixMemIdeal := hMixMemIdeal) (hPre_finite_mix := hPre_finite_mix)
    ∧ quiescent_MixMemRefIdeal (hMixMemRefIdeal := hMixMemRefIdeal)
    ∧ quiescent_MixMemRefIdeal_pre_finite_mix (hMixMemRefIdeal := hMixMemRefIdeal) (hPre_finite_mix := hPre_finite_mix)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_InProj_InProjIdeal
    ∧ algebraic_InProjIdeal_InProjRefIdeal_pre_finite_x (hInProjIdeal := hInProjIdeal) (hInProjRefIdeal := hInProjRefIdeal) (hPre_finite_x := hPre_finite_x)
    ∧ preserves_MixMem_MixMemIdeal
    ∧ algebraic_MixMemIdeal_MixMemRefIdeal_pre_finite_mix (hMixMemIdeal := hMixMemIdeal) (hMixMemRefIdeal := hMixMemRefIdeal) (hPre_finite_mix := hPre_finite_mix)
    ∧ preserves_MemKv_MemKvIdeal
    ∧ algebraic_MemKvIdeal_MemKvRefIdeal (hMemKvIdeal := hMemKvIdeal) (hMemKvRefIdeal := hMemKvRefIdeal)
-- ==== Pre_finite_mix.lean ====
abbrev S2x8192x1024 : Shape := ⟨3, ![2, 8192, 1024]⟩
abbrev S2x8192x512 : Shape := ⟨3, ![2, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S256 : Shape := ⟨1, ![256]⟩
abbrev S2x256x4x256 : Shape := ⟨4, ![2, 256, 4, 256]⟩
abbrev S_ : Shape := ⟨0, ![]⟩

class Facts : Prop where
  bcast_S_S256 : S_.BroadcastsInDim S256 (![] : Fin 0 → Fin S256.rank)
  bcast_S_S2x256x4x256 : S_.BroadcastsInDim S2x256x4x256 (![] : Fin 0 → Fin S2x256x4x256.rank)

variable [Facts]

def fn {F : FTy → Type} [FloatOps F] (main_arg0 : FVec F S2x8192x1024 .f32) (main_arg1 : FVec F S2x8192x512 .f32) (main_arg2 : FVec F S2x8192x512 .f32) (main_arg3 : FVec F S512x512 .f32) (main_arg4 : FVec F S512 .f32) (main_arg5 : FVec F S512 .f32) (main_arg6 : FVec F S512 .f32) (main_arg7 : FVec F S1024x1024 .f32) (main_arg8 : FVec F S1024 .f32) (main_arg9 : FVec F S1024x1024 .f32) (main_arg10 : FVec F S256 .f32) (main_arg11 : FVec F S2x256x4x256 .f32) (main_arg12 : FVec F S2x256x4x256 .f32) (main_arg13 : FVec F S1024x1024 .f32) : IVec S256 1 × IVec S2x256x4x256 1 :=
  let main_cst : FVec F S_ .f32 := constant S_ .f32 0x7F800000#32
  let main_v0 : FVec F S256 .f32 := broadcastInDim S256 ![] bcast_S_S256 main_cst
  let main_v1 : IVec S256 1 := cmpf .olt main_arg10 main_v0
  let main_cst_0 : FVec F S_ .f32 := constant S_ .f32 0xFF800000#32
  let main_v2 : FVec F S256 .f32 := broadcastInDim S256 ![] bcast_S_S256 main_cst_0
  let main_v3 : IVec S256 1 := cmpf .ogt main_arg10 main_v2
  let main_v4 : IVec S256 1 := andi main_v1 main_v3
  let main_cst_1 : FVec F S_ .f32 := constant S_ .f32 0x7F800000#32
  let main_v5 : FVec F S2x256x4x256 .f32 := broadcastInDim S2x256x4x256 ![] bcast_S_S2x256x4x256 main_cst_1
  let main_v6 : IVec S2x256x4x256 1 := cmpf .olt main_arg11 main_v5
  let main_cst_2 : FVec F S_ .f32 := constant S_ .f32 0xFF800000#32
  let main_v7 : FVec F S2x256x4x256 .f32 := broadcastInDim S2x256x4x256 ![] bcast_S_S2x256x4x256 main_cst_2
  let main_v8 : IVec S2x256x4x256 1 := cmpf .ogt main_arg11 main_v7
  let main_v9 : IVec S2x256x4x256 1 := andi main_v6 main_v8
  (main_v4, main_v9)
-- ==== Pre_finite_qk.lean ====
abbrev S2x8192x8x64 : Shape := ⟨4, ![2, 8192, 8, 64]⟩
abbrev S8x192 : Shape := ⟨2, ![8, 192]⟩
abbrev S_ : Shape := ⟨0, ![]⟩

class Facts : Prop where
  bcast_S_S2x8192x8x64 : S_.BroadcastsInDim S2x8192x8x64 (![] : Fin 0 → Fin S2x8192x8x64.rank)
  bcast_S_S8x192 : S_.BroadcastsInDim S8x192 (![] : Fin 0 → Fin S8x192.rank)

variable [Facts]

def fn {F : FTy → Type} [FloatOps F] (main_arg0 : FVec F S2x8192x8x64 .f32) (main_arg1 : FVec F S2x8192x8x64 .f32) (main_arg2 : FVec F S2x8192x8x64 .f32) (main_arg3 : FVec F S8x192 .f32) : IVec S2x8192x8x64 1 × IVec S2x8192x8x64 1 × IVec S8x192 1 :=
  let main_cst : FVec F S_ .f32 := constant S_ .f32 0x7F800000#32
  let main_v0 : FVec F S2x8192x8x64 .f32 := broadcastInDim S2x8192x8x64 ![] bcast_S_S2x8192x8x64 main_cst
  let main_v1 : IVec S2x8192x8x64 1 := cmpf .olt main_arg0 main_v0
  let main_cst_0 : FVec F S_ .f32 := constant S_ .f32 0xFF800000#32
  let main_v2 : FVec F S2x8192x8x64 .f32 := broadcastInDim S2x8192x8x64 ![] bcast_S_S2x8192x8x64 main_cst_0
  let main_v3 : IVec S2x8192x8x64 1 := cmpf .ogt main_arg0 main_v2
  let main_v4 : IVec S2x8192x8x64 1 := andi main_v1 main_v3
  let main_cst_1 : FVec F S_ .f32 := constant S_ .f32 0x7F800000#32
  let main_v5 : FVec F S2x8192x8x64 .f32 := broadcastInDim S2x8192x8x64 ![] bcast_S_S2x8192x8x64 main_cst_1
  let main_v6 : IVec S2x8192x8x64 1 := cmpf .olt main_arg1 main_v5
  let main_cst_2 : FVec F S_ .f32 := constant S_ .f32 0xFF800000#32
  let main_v7 : FVec F S2x8192x8x64 .f32 := broadcastInDim S2x8192x8x64 ![] bcast_S_S2x8192x8x64 main_cst_2
  let main_v8 : IVec S2x8192x8x64 1 := cmpf .ogt main_arg1 main_v7
  let main_v9 : IVec S2x8192x8x64 1 := andi main_v6 main_v8
  let main_cst_3 : FVec F S_ .f32 := constant S_ .f32 0x7F800000#32
  let main_v10 : FVec F S8x192 .f32 := broadcastInDim S8x192 ![] bcast_S_S8x192 main_cst_3
  let main_v11 : IVec S8x192 1 := cmpf .olt main_arg3 main_v10
  let main_cst_4 : FVec F S_ .f32 := constant S_ .f32 0xFF800000#32
  let main_v12 : FVec F S8x192 .f32 := broadcastInDim S8x192 ![] bcast_S_S8x192 main_cst_4
  let main_v13 : IVec S8x192 1 := cmpf .ogt main_arg3 main_v12
  let main_v14 : IVec S8x192 1 := andi main_v11 main_v13
  (main_v4, main_v9, main_v14)
-- ==== Pre_finite_x.lean ====
abbrev S2x8192x1024 : Shape := ⟨3, ![2, 8192, 1024]⟩
abbrev S1024 : Shape := ⟨1, ![1024]⟩
abbrev S1024x2048 : Shape := ⟨2, ![1024, 2048]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S2x8192x1024 .f32) (main_arg1 : FVec F S1024 .f32) (main_arg2 : FVec F S1024x2048 .f32) (main_arg3 : FVec F S64 .f32) (main_arg4 : FVec F S64 .f32) : IVec S1024 1 × IVec S1024x2048 1 :=
  let main_cst : FVec F S_ .f32 := constant S_ .f32 0x7F800000#32
  let main_v0 : FVec F S1024 .f32 := broadcastInDim S1024 ![] bcast_S_S1024 main_cst
  let main_v1 : IVec S1024 1 := cmpf .olt main_arg1 main_v0
  let main_cst_0 : FVec F S_ .f32 := constant S_ .f32 0xFF800000#32
  let main_v2 : FVec F S1024 .f32 := broadcastInDim S1024 ![] bcast_S_S1024 main_cst_0
  let main_v3 : IVec S1024 1 := cmpf .ogt main_arg1 main_v2
  let main_v4 : IVec S1024 1 := andi main_v1 main_v3
  let main_cst_1 : FVec F S_ .f32 := constant S_ .f32 0x7F800000#32
  let main_v5 : FVec F S1024x2048 .f32 := broadcastInDim S1024x2048 ![] bcast_S_S1024x2048 main_cst_1
  let main_v6 : IVec S1024x2048 1 := cmpf .olt main_arg2 main_v5
  let main_cst_2 : FVec F S_ .f32 := constant S_ .f32 0xFF800000#32
  let main_v7 : FVec F S1024x2048 .f32 := broadcastInDim S1024x2048 ![] bcast_S_S1024x2048 main_cst_2
  let main_v8 : IVec S1024x2048 1 := cmpf .ogt main_arg2 main_v7
  let main_v9 : IVec S1024x2048 1 := andi main_v6 main_v8
  (main_v4, main_v9)
-- ==== Attn.lean ====
abbrev S2x8192x8x64 : Shape := ⟨4, ![2, 8192, 8, 64]⟩
abbrev S8x192 : Shape := ⟨2, ![8, 192]⟩
abbrev S1024 : Shape := ⟨1, ![1024]⟩
abbrev S_ : Shape := ⟨0, ![]⟩
abbrev S2x8192x512 : Shape := ⟨3, ![2, 8192, 512]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S1x512x512 : Shape := ⟨3, ![1, 512, 512]⟩
abbrev S512x512 : Shape := ⟨2, ![512, 512]⟩
abbrev S1024x512 : Shape := ⟨2, ![1024, 512]⟩
abbrev S1x256x512 : Shape := ⟨3, ![1, 256, 512]⟩
abbrev S256x512 : Shape := ⟨2, ![256, 512]⟩
abbrev S768x512 : Shape := ⟨2, ![768, 512]⟩
abbrev S256x64 : Shape := ⟨2, ![256, 64]⟩
abbrev S768x64 : Shape := ⟨2, ![768, 64]⟩
abbrev S1x256x64 : Shape := ⟨3, ![1, 256, 64]⟩

abbrev nBuf : Space → Nat
  | .hbm => 84
  | .vmem => 13
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S8x192, .f32⟩
  | .hbm, ⟨4, _⟩ => ⟨S1024, .i32⟩
  | .hbm, ⟨5, _⟩ => ⟨S1024, .i1⟩
  | .hbm, ⟨6, _⟩ => ⟨S_, .f32⟩
  | .hbm, ⟨7, _⟩ => ⟨S2x8192x8x64, .f32⟩
  | .hbm, ⟨8, _⟩ => ⟨S2x8192x8x64, .f32⟩
  | .hbm, ⟨9, _⟩ => ⟨S2x8192x8x64, .bf16⟩
  | .hbm, ⟨10, _⟩ => ⟨S2x8192x8x64, .bf16⟩
  | .hbm, ⟨11, _⟩ => ⟨S2x8192x8x64, .bf16⟩
  | .hbm, ⟨12, _⟩ => ⟨S2x8192x512, .bf16⟩
  | .hbm, ⟨13, _⟩ => ⟨S2x8192x512, .bf16⟩
  | .hbm, ⟨14, _⟩ => ⟨S2x8192x512, .bf16⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S8x1024, .f32⟩
  | .hbm, ⟨21, _⟩ => ⟨S1x8x1x1024, .f32⟩
  | .hbm, ⟨22, _⟩ => ⟨S1x8x256x1024, .f32⟩
  | .hbm, ⟨23, _⟩ => ⟨S8x262144, .f32⟩
  | .hbm, ⟨24, _⟩ => ⟨S8x261888, .f32⟩
  | .hbm, ⟨25, _⟩ => ⟨S8x256x1023, .f32⟩
  | .hbm, ⟨26, _⟩ => ⟨S8x256x768, .f32⟩
  | .hbm, ⟨27, _⟩ => ⟨S256, .i32⟩
  | .hbm, ⟨28, _⟩ => ⟨S256x1, .i32⟩
  | .hbm, ⟨29, _⟩ => ⟨S768, .i32⟩
  | .hbm, ⟨30, _⟩ => ⟨S1x768, .i32⟩
  | .hbm, ⟨31, _⟩ => ⟨S_, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i1⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S_, .i32⟩
  | .hbm, ⟨51, _⟩ => ⟨S1x768, .i32⟩
  | .hbm, ⟨52, _⟩ => ⟨S1x768, .i32⟩
  | .hbm, ⟨53, _⟩ => ⟨S1x768, .i32⟩
  | .hbm, ⟨54, _⟩ => ⟨S_, .i32⟩
  | .hbm, ⟨55, _⟩ => ⟨S1x768, .i32⟩
  | .hbm, ⟨56, _⟩ => ⟨S1x768, .i1⟩
  | .hbm, ⟨57, _⟩ => ⟨S1x768, .i32⟩
  | .hbm, ⟨58, _⟩ => ⟨S1x768, .i32⟩
  | .hbm, ⟨59, _⟩ => ⟨S_, .i32⟩
  | .hbm, ⟨60, _⟩ => ⟨S1x768, .i32⟩
  | .hbm, ⟨61, _⟩ => ⟨S1x768, .i1⟩
  | .hbm, ⟨62, _⟩ => ⟨S1x768, .i1⟩
  | .hbm, ⟨63, _⟩ => ⟨S_, .i32⟩
  | .hbm, ⟨64, _⟩ => ⟨S1x768, .i32⟩
  | .hbm, ⟨65, _⟩ => ⟨S1x768, .i32⟩
  | .hbm, ⟨66, _⟩ => ⟨S1x768, .i32⟩
  | .hbm, ⟨67, _⟩ => ⟨S256x768, .i32⟩
  | .hbm, ⟨68, _⟩ => ⟨S256x768, .i32⟩
  | .hbm, ⟨69, _⟩ => ⟨S256x768, .i1⟩
  | .hbm, ⟨70, _⟩ => ⟨S_, .i32⟩
  | .hbm, ⟨71, _⟩ => ⟨S256x1, .i32⟩
  | .hbm, ⟨72, _⟩ => ⟨S256x1, .i32⟩
  | .hbm, ⟨73, _⟩ => ⟨S256x768, .i32⟩
  | .hbm, ⟨74, _⟩ => ⟨S256x768, .i32⟩
  | .hbm, ⟨75, _⟩ => ⟨S256x768, .i1⟩
  | .hbm, ⟨76, _⟩ => ⟨S256x768, .i1⟩
  | .hbm, ⟨77, _⟩ => ⟨S1x256x768, .i1⟩
  | .hbm, ⟨78, _⟩ => ⟨S_, .f32⟩
  | .hbm, ⟨79, _⟩ => ⟨S_, .f32⟩
  | .hbm, ⟨80, _⟩ => ⟨S8x256x768, .i1⟩
  | .hbm, ⟨81, _⟩ => ⟨S8x256x768, .f32⟩
  | .hbm, ⟨82, _⟩ => ⟨S8x256x768, .f32⟩
  | .hbm, ⟨83, _⟩ => ⟨S2x8192x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S8x256x768, .f32⟩
  | .local _ .vmem, ⟨11, _⟩ => ⟨S1x512x512, .f32⟩
  | .local _ .vmem, ⟨12, _⟩ => ⟨S1x512x512, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v23 : Ref sig .tc := ⟨.hbm, 48, rfl⟩
abbrev main_c_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_4 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_5 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v35 : Ref sig .tc := ⟨.hbm, 82, rfl⟩
abbrev main_v36 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S2x8192x8x64 : Shape := ⟨4, ![2, 8192, 8, 64]⟩
abbrev S8x192 : Shape := ⟨2, ![8, 192]⟩
abbrev S2x128x64x8x64 : Shape := ⟨5, ![2, 128, 64, 8, 64]⟩
abbrev S_ : Shape := ⟨0, ![]⟩
abbrev S2x136x64x8x64 : Shape := ⟨5, ![2, 136, 64, 8, 64]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x1 : Shape := ⟨3, ![128, 9, 1]⟩
abbrev S2x128x9x64x8x64 : Shape := ⟨6, ![2, 128, 9, 64, 8, 64]⟩
abbrev S2x128x576x8x64 : Shape := ⟨5, ![2, 128, 576, 8, 64]⟩
abbrev S2x8x128x64x576 : Shape := ⟨5, ![2, 8, 128, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S128x576 : Shape := ⟨2, ![128, 576]⟩
abbrev S1x1x128x1x576 : Shape := ⟨5, ![1, 1, 128, 1, 576]⟩
abbrev S2x8x128x64 : Shape := ⟨4, ![2, 8, 128, 64]⟩
abbrev S2x8x128x64x1 : Shape := ⟨5, ![2, 8, 128, 64, 1]⟩
abbrev S2x128x8x64x64 : Shape := ⟨5, ![2, 128, 8, 64, 64]⟩
abbrev S2x8192x512 : Shape := ⟨3, ![2, 8192, 512]⟩

abbrev nBuf : Space → Nat
  | .hbm => 131
  | .vmem => 0
  | .smem => 0
  | _ => 0

abbrev hbmTy0_0 (i : Nat) : BufTy := match i % 128 with
  | 0 => ⟨S2x8192x8x64, .f32⟩
  | 1 => ⟨S2x8192x8x64, .f32⟩
  | 2 => ⟨S2x8192x8x64, .f32⟩
  | 3 => ⟨S8x192, .f32⟩
  | 4 => ⟨S2x128x64x8x64, .f32⟩
  | 5 => ⟨S2x128x64x8x64, .f32⟩
  | 6 => ⟨S_, .i32⟩
  | 7 => ⟨S_, .f32⟩
  | 8 => ⟨S2x136x64x8x64, .f32⟩
  | 9 => ⟨S2x128x64x8x64, .f32⟩
  | 10 => ⟨S_, .i32⟩
  | 11 => ⟨S_, .f32⟩
  | 12 => ⟨S2x136x64x8x64, .f32⟩
  | 13 => ⟨S128, .i32⟩
  | 14 => ⟨S128x1, .i32⟩
  | 15 => ⟨S9, .i32⟩
  | 16 => ⟨S1x9, .i32⟩
  | 17 => ⟨S128x9, .i32⟩
  | 18 => ⟨S128x9, .i32⟩
  | 19 => ⟨S128x9, .i32⟩
  | 20 => ⟨S_, .i32⟩
  | 21 => ⟨S128x9, .i32⟩
  | 22 => ⟨S128x9, .i1⟩
  | 23 => ⟨S_, .i32⟩
  | 24 => ⟨S128x9, .i32⟩
  | 25 => ⟨S128x9, .i32⟩
  | 26 => ⟨S128x9, .i32⟩
  | 27 => ⟨S128x9x1, .i32⟩
  | 28 => ⟨S2x128x9x64x8x64, .f32⟩
  | 29 => ⟨S2x128x576x8x64, .f32⟩
  | 30 => ⟨S_, .i32⟩
  | 31 => ⟨S128x9, .i32⟩
  | 32 => ⟨S128x9, .i1⟩
  | 33 => ⟨S_, .i32⟩
  | 34 => ⟨S128x9, .i32⟩
  | 35 => ⟨S128x9, .i32⟩
  | 36 => ⟨S128x9, .i32⟩
  | 37 => ⟨S128x9x1, .i32⟩
  | 38 => ⟨S2x128x9x64x8x64, .f32⟩
  | 39 => ⟨S2x128x576x8x64, .f32⟩
  | 40 => ⟨S2x8x128x64x576, .f32⟩
  | 41 => ⟨S_, .f32⟩
  | 42 => ⟨S2x8x128x64x576, .f32⟩
  | 43 => ⟨S2x8x128x64x576, .f32⟩
  | 44 => ⟨S64, .i32⟩
  | 45 => ⟨S64x1, .i32⟩
  | 46 => ⟨S_, .i32⟩
  | 47 => ⟨S64x1, .i32⟩
  | 48 => ⟨S64x1, .i32⟩
  | 49 => ⟨S576, .i32⟩
  | 50 => ⟨S1x576, .i32⟩
  | 51 => ⟨S64x576, .i32⟩
  | 52 => ⟨S64x576, .i32⟩
  | 53 => ⟨S64x576, .i32⟩
  | 54 => ⟨S_, .i32⟩
  | 55 => ⟨S_, .i32⟩
  | 56 => ⟨S_, .i32⟩
  | 57 => ⟨S64x576, .i32⟩
  | 58 => ⟨S64x576, .i32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i1⟩
  | 68 => ⟨S_, .i32⟩
  | 69 => ⟨S64x576, .i32⟩
  | 70 => ⟨S64x576, .i32⟩
  | 71 => ⟨S64x576, .i32⟩
  | 72 => ⟨S64x576x1, .i32⟩
  | 73 => ⟨S8x64x576, .f32⟩
  | 74 => ⟨S1x8x1x64x576, .f32⟩
  | 75 => ⟨S2x8x128x64x576, .f32⟩
  | 76 => ⟨S2x8x128x64x576, .f32⟩
  | 77 => ⟨S128, .i32⟩
  | 78 => ⟨S128x1, .i32⟩
  | 79 => ⟨S_, .i32⟩
  | 80 => ⟨S128x1, .i32⟩
  | 81 => ⟨S128x1, .i32⟩
  | 82 => ⟨S576, .i32⟩
  | 83 => ⟨S_, .i32⟩
  | 84 => ⟨S_, .i32⟩
  | 85 => ⟨S576, .i32⟩
  | 86 => ⟨S576, .i32⟩
  | 87 => ⟨S576, .i32⟩
  | 88 => ⟨S_, .i32⟩
  | 89 => ⟨S576, .i32⟩
  | 90 => ⟨S576, .i1⟩
  | 91 => ⟨S576, .i32⟩
  | 92 => ⟨S576, .i32⟩
  | 93 => ⟨S_, .i32⟩
  | 94 => ⟨S576, .i32⟩
  | 95 => ⟨S576, .i1⟩
  | 96 => ⟨S576, .i1⟩
  | 97 => ⟨S_, .i32⟩
  | 98 => ⟨S576, .i32⟩
  | 99 => ⟨S576, .i32⟩
  | 100 => ⟨S576, .i32⟩
  | 101 => ⟨S1x576, .i32⟩
  | 102 => ⟨S128x576, .i32⟩
  | 103 => ⟨S128x576, .i32⟩
  | 104 => ⟨S128x576, .i32⟩
  | 105 => ⟨S_, .i32⟩
  | 106 => ⟨S128x576, .i32⟩
  | 107 => ⟨S128x576, .i1⟩
  | 108 => ⟨S1x1x128x1x576, .i1⟩
  | 109 => ⟨S_, .f32⟩
  | 110 => ⟨S_, .f32⟩
  | 111 => ⟨S2x8x128x64x576, .i1⟩
  | 112 => ⟨S2x8x128x64x576, .f32⟩
  | 113 => ⟨S2x8x128x64x576, .f32⟩
  | 114 => ⟨S_, .f32⟩
  | 115 => ⟨S2x8x128x64, .f32⟩
  | 116 => ⟨S_, .f32⟩
  | 117 => ⟨S2x8x128x64, .f32⟩
  | 118 => ⟨S2x8x128x64, .f32⟩
  | 119 => ⟨S2x8x128x64x1, .f32⟩
  | 120 => ⟨S2x8x128x64x576, .f32⟩
  | 121 => ⟨S2x8x128x64x576, .f32⟩
  | 122 => ⟨S2x8x128x64x576, .f32⟩
  | 123 => ⟨S_, .f32⟩
  | 124 => ⟨S2x8x128x64, .f32⟩
  | 125 => ⟨S2x8x128x64x1, .f32⟩
  | 126 => ⟨S2x8x128x64x576, .f32⟩
  | 127 => ⟨S2x8x128x64x576, .f32⟩
  | _ => ⟨S2x8192x8x64, .f32⟩

abbrev hbmTy0_1 (i : Nat) : BufTy := match i % 128 with
  | 0 => ⟨S2x128x8x64x64, .f32⟩
  | 1 => ⟨S2x128x64x8x64, .f32⟩
  | 2 => ⟨S2x8192x512, .f32⟩
  | _ => ⟨S2x8192x8x64, .f32⟩

abbrev hbmTy (i : Nat) : BufTy := match i / 128 with
  | 0 => hbmTy0_0 i
  | 1 => hbmTy0_1 i
  | _ => ⟨S2x8192x8x64, .f32⟩

abbrev bufTy : (tb : Table) → Fin (tcTables nBuf tb) → BufTy
  | .hbm, ⟨i, _⟩ => hbmTy i
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_c_7 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_13 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_14 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v66 : Ref sig .tc := ⟨.hbm, 113, rfl⟩
abbrev main_cst_15 : Ref sig .tc := ⟨.hbm, 114, rfl⟩
abbrev main_v67 : Ref sig .tc := ⟨.hbm, 115, rfl⟩
abbrev main_cst_16 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_17 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩

abbrev nD : Nat := 1
abbrev τ : Topo := Topo.v7x

variable {F : FTy → Type} [FloatOps F]
-- ==== InProj.lean ====
abbrev S2x8192x1024 : Shape := ⟨3, ![2, 8192, 1024]⟩
abbrev S1024 : Shape := ⟨1, ![1024]⟩
abbrev S1024x2048 : Shape := ⟨2, ![1024, 2048]⟩
abbrev S64 : Shape := ⟨1, ![64]⟩
abbrev S16384x1024 : Shape := ⟨2, ![16384, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16384x512 : Shape := ⟨2, ![16384, 512]⟩
abbrev S512x1024 : Shape := ⟨2, ![512, 1024]⟩
abbrev S512x1 : Shape := ⟨2, ![512, 1]⟩
abbrev S512x2048 : Shape := ⟨2, ![512, 2048]⟩

abbrev nBuf : Space → Nat
  | .hbm => 36
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S_, .f32⟩
  | .hbm, ⟨14, _⟩ => ⟨S64x64, .f32⟩
  | .hbm, ⟨15, _⟩ => ⟨S8x1x8x1, .f32⟩
  | .hbm, ⟨16, _⟩ => ⟨S1x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S1x1024, .f32⟩
  | .hbm, ⟨23, _⟩ => ⟨S1024x2048, .bf16⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S1x64, .f32⟩
  | .hbm, ⟨29, _⟩ => ⟨S8x64, .f32⟩
  | .hbm, ⟨30, _⟩ => ⟨S512, .f32⟩
  | .hbm, ⟨31, _⟩ => ⟨S1x512, .f32⟩
  | .hbm, ⟨32, _⟩ => ⟨S16384x512, .bf16⟩
  | .hbm, ⟨33, _⟩ => ⟨S16384x512, .bf16⟩
  | .hbm, ⟨34, _⟩ => ⟨S16384x512, .bf16⟩
  | .hbm, ⟨35, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S2x8192x1024 : Shape := ⟨3, ![2, 8192, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S16384x512 : Shape := ⟨2, ![16384, 512]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2048, .f32⟩
  | .hbm, ⟨22, _⟩ => ⟨S2x8192x512, .f32⟩
  | .hbm, ⟨23, _⟩ => ⟨S2x8192x8x64, .f32⟩
  | .hbm, ⟨24, _⟩ => ⟨S2x8192x512, .f32⟩
  | .hbm, ⟨25, _⟩ => ⟨S2x8192x8x64, .f32⟩
  | .hbm, ⟨26, _⟩ => ⟨S2x8192x512, .f32⟩
  | .hbm, ⟨27, _⟩ => ⟨S2x8192x512, .f32⟩
  | .hbm, ⟨28, _⟩ => ⟨S2x8192x8x64, .f32⟩
  | .hbm, ⟨29, _⟩ => ⟨S_, .f32⟩
  | .hbm, ⟨30, _⟩ => ⟨S2x8192x8, .f32⟩
  | .hbm, ⟨31, _⟩ => ⟨S2x8192x8x1, .f32⟩
  | .hbm, ⟨32, _⟩ => ⟨S_, .f32⟩
  | .hbm, ⟨33, _⟩ => ⟨S2x8192x8x1, .f32⟩
  | .hbm, ⟨34, _⟩ => ⟨S2x8192x8x1, .f32⟩
  | .hbm, ⟨35, _⟩ => ⟨S_, .f32⟩
  | .hbm, ⟨36, _⟩ => ⟨S2x8192x8x1, .f32⟩
  | .hbm, ⟨37, _⟩ => ⟨S2x8192x8x1, .f32⟩
  | .hbm, ⟨38, _⟩ => ⟨S2x8192x8x1, .f32⟩
  | .hbm, ⟨39, _⟩ => ⟨S2x8192x8x64, .f32⟩
  | .hbm, ⟨40, _⟩ => ⟨S2x8192x8x64, .f32⟩
  | .hbm, ⟨41, _⟩ => ⟨S1x1x1x64, .f32⟩
  | .hbm, ⟨42, _⟩ => ⟨S2x8192x8x64, .f32⟩
  | .hbm, ⟨43, _⟩ => ⟨S2x8192x8x64, .f32⟩
  | .hbm, ⟨44, _⟩ => ⟨S_, .f32⟩
  | .hbm, ⟨45, _⟩ => ⟨S2x8192x8x64, .f32⟩
  | .hbm, ⟨46, _⟩ => ⟨S2x8192x8x64, .f32⟩
  | .hbm, ⟨47, _⟩ => ⟨S2x8192x8x64, .f32⟩
  | .hbm, ⟨48, _⟩ => ⟨S_, .f32⟩
  | .hbm, ⟨49, _⟩ => ⟨S2x8192x8, .f32⟩
  | .hbm, ⟨50, _⟩ => ⟨S2x8192x8x1, .f32⟩
  | .hbm, ⟨51, _⟩ => ⟨S_, .f32⟩
  | .hbm, ⟨52, _⟩ => ⟨S2x8192x8x1, .f32⟩
  | .hbm, ⟨53, _⟩ => ⟨S2x8192x8x1, .f32⟩
  | .hbm, ⟨54, _⟩ => ⟨S_, .f32⟩
  | .hbm, ⟨55, _⟩ => ⟨S2x8192x8x1, .f32⟩
  | .hbm, ⟨56, _⟩ => ⟨S2x8192x8x1, .f32⟩
  | .hbm, ⟨57, _⟩ => ⟨S2x8192x8x1, .f32⟩
  | .hbm, ⟨58, _⟩ => ⟨S2x8192x8x64, .f32⟩
  | .hbm, ⟨59, _⟩ => ⟨S2x8192x8x64, .f32⟩
  | .hbm, ⟨60, _⟩ => ⟨S1x1x1x64, .f32⟩
  | .hbm, ⟨61, _⟩ => ⟨S2x8192x8x64, .f32⟩
  | .hbm, ⟨62, _⟩ => ⟨S2x8192x8x64, .f32⟩
  | .hbm, ⟨63, _⟩ => ⟨S16384x512, .f32⟩
  | .hbm, ⟨64, _⟩ => ⟨S16384x512, .bf16⟩
  | .hbm, ⟨65, _⟩ => ⟨S16384x512, .f32⟩
  | .hbm, ⟨66, _⟩ => ⟨S16384x512, .bf16⟩
  | .hbm, ⟨67, _⟩ => ⟨S16384x512, .f32⟩
  | .hbm, ⟨68, _⟩ => ⟨S16384x512, .bf16⟩
  | .hbm, ⟨69, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== MixMem.lean ====
abbrev S2x8192x1024 : Shape := ⟨3, ![2, 8192, 1024]⟩
abbrev S2x8192x512 : Shape := ⟨3, ![2, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S256 : Shape := ⟨1, ![256]⟩
abbrev S2x256x4x256 : Shape := ⟨4, ![2, 256, 4, 256]⟩
abbrev S1x512 : Shape := ⟨2, ![1, 512]⟩
abbrev S512x1024 : Shape := ⟨2, ![512, 1024]⟩
abbrev S1x1024 : Shape := ⟨2, ![1, 1024]⟩
abbrev S1x256 : Shape := ⟨2, ![1, 256]⟩
abbrev S2x256x1024 : Shape := ⟨3, ![2, 256, 1024]⟩
abbrev S1024x16384 : Shape := ⟨2, ![1024, 16384]⟩
abbrev S1x512x1024 : Shape := ⟨3, ![1, 512, 1024]⟩
abbrev S1x512x512 : Shape := ⟨3, ![1, 512, 512]⟩
abbrev S1x256x1024 : Shape := ⟨3, ![1, 256, 1024]⟩
abbrev S1024x512 : Shape := ⟨2, ![1024, 512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 30
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S256, .f32⟩
  | .hbm, ⟨11, _⟩ => ⟨S2x256x4x256, .f32⟩
  | .hbm, ⟨12, _⟩ => ⟨S2x256x4x256, .f32⟩
  | .hbm, ⟨13, _⟩ => ⟨S1024x1024, .f32⟩
  | .hbm, ⟨14, _⟩ => ⟨S1024x1024, .bf16⟩
  | .hbm, ⟨15, _⟩ => ⟨S512x512, .bf16⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S512x1024, .bf16⟩
  | .hbm, ⟨20, _⟩ => ⟨S512x1024, .bf16⟩
  | .hbm, ⟨21, _⟩ => ⟨S1x1024, .f32⟩
  | .hbm, ⟨22, _⟩ => ⟨S1024x1024, .bf16⟩
  | .hbm, ⟨23, _⟩ => ⟨S1x256, .f32⟩
  | .hbm, ⟨24, _⟩ => ⟨S2x256x4x256, .bf16⟩
  | .hbm, ⟨25, _⟩ => ⟨S2x256x1024, .bf16⟩
  | .hbm, ⟨26, _⟩ => ⟨S2x256x4x256, .bf16⟩
  | .hbm, ⟨27, _⟩ => ⟨S2x256x1024, .bf16⟩
  | .hbm, ⟨28, _⟩ => ⟨S1024x1024, .bf16⟩
  | .hbm, ⟨29, _⟩ => ⟨S1024x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1x256, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1024x1024, .bf16⟩
  | .local _ .vmem, ⟨20, _⟩ => ⟨S1024x512, .f32⟩
  | .local _ .vmem, ⟨21, _⟩ => ⟨S1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixMemRefIdeal.lean ====
abbrev S2x8192x1024 : Shape := ⟨3, ![2, 8192, 1024]⟩
abbrev S2x8192x512 : Shape := ⟨3, ![2, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S256 : Shape := ⟨1, ![256]⟩
abbrev S2x256x4x256 : Shape := ⟨4, ![2, 256, 4, 256]⟩
abbrev S_ : Shape := ⟨0, ![]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S16384x1024 : Shape := ⟨2, ![16384, 1024]⟩
abbrev S1024x16384 : Shape := ⟨2, ![1024, 16384]⟩

abbrev nBuf : Space → Nat
  | .hbm => 132
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x512, .f32⟩
  | 3 => ⟨S512x512, .f32⟩
  | 4 => ⟨S512, .f32⟩
  | 5 => ⟨S512, .f32⟩
  | 6 => ⟨S512, .f32⟩
  | 7 => ⟨S1024x1024, .f32⟩
  | 8 => ⟨S1024, .f32⟩
  | 9 => ⟨S1024x1024, .f32⟩
  | 10 => ⟨S256, .f32⟩
  | 11 => ⟨S2x256x4x256, .f32⟩
  | 12 => ⟨S2x256x4x256, .f32⟩
  | 13 => ⟨S1024x1024, .f32⟩
  | 14 => ⟨S_, .f32⟩
  | 15 => ⟨S2x8192x512, .f32⟩
  | 16 => ⟨S2x8192x512, .f32⟩
  | 17 => ⟨S_, .f32⟩
  | 18 => ⟨S2x8192x512, .f32⟩
  | 19 => ⟨S2x8192x512, .f32⟩
  | 20 => ⟨S2x8192x512, .f32⟩
  | 21 => ⟨S_, .f32⟩
  | 22 => ⟨S2x8192x512, .f32⟩
  | 23 => ⟨S2x8192x512, .f32⟩
  | 24 => ⟨S2x8192x512, .f32⟩
  | 25 => ⟨S2x8192x512, .f32⟩
  | 26 => ⟨S1x1x512, .f32⟩
  | 27 => ⟨S2x8192x512, .f32⟩
  | 28 => ⟨S2x8192x512, .f32⟩
  | 29 => ⟨S2x8192x512, .f32⟩
  | 30 => ⟨S2x8192x512, .f32⟩
  | 31 => ⟨S_, .f32⟩
  | 32 => ⟨S2x8192x512, .f32⟩
  | 33 => ⟨S2x8192x512, .f32⟩
  | 34 => ⟨S_, .f32⟩
  | 35 => ⟨S2x8192x512, .f32⟩
  | 36 => ⟨S2x8192x512, .f32⟩
  | 37 => ⟨S2x8192x512, .f32⟩
  | 38 => ⟨S2x8192x512, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S_, .f32⟩
  | 46 => ⟨S2x8192x1, .f32⟩
  | 47 => ⟨S2x8192x1, .f32⟩
  | 48 => ⟨S2x8192x1, .f32⟩
  | 49 => ⟨S2x8192x512, .f32⟩
  | 50 => ⟨S2x8192x512, .f32⟩
  | 51 => ⟨S1x1x512, .f32⟩
  | 52 => ⟨S2x8192x512, .f32⟩
  | 53 => ⟨S2x8192x512, .f32⟩
  | 54 => ⟨S2x8192x512, .f32⟩
  | 55 => ⟨S_, .f32⟩
  | 56 => ⟨S2x8192, .f32⟩
  | 57 => ⟨S2x8192x1, .f32⟩
  | 58 => ⟨S_, .f32⟩
  | 59 => ⟨S2x8192x1, .f32⟩
  | 60 => ⟨S2x8192x1, .f32⟩
  | 61 => ⟨S_, .f32⟩
  | 62 => ⟨S2x8192x1, .f32⟩
  | 63 => ⟨S2x8192x1, .f32⟩
  | 64 => ⟨S2x8192x1, .f32⟩
  | 65 => ⟨S2x8192x512, .f32⟩
  | 66 => ⟨S2x8192x512, .f32⟩
  | 67 => ⟨S1x1x512, .f32⟩
  | 68 => ⟨S2x8192x512, .f32⟩
  | 69 => ⟨S2x8192x512, .f32⟩
  | 70 => ⟨S2x8192x1024, .f32⟩
  | 71 => ⟨S2x8192x1024, .f32⟩
  | 72 => ⟨S2x8192x1024, .f32⟩
  | 73 => ⟨S2x8192x1024, .f32⟩
  | 74 => ⟨S_, .f32⟩
  | 75 => ⟨S2x8192, .f32⟩
  | 76 => ⟨S2x8192x1, .f32⟩
  | 77 => ⟨S_, .f32⟩
  | 78 => ⟨S2x8192x1, .f32⟩
  | 79 => ⟨S2x8192x1, .f32⟩
  | 80 => ⟨S_, .f32⟩
  | 81 => ⟨S2x8192x1, .f32⟩
  | 82 => ⟨S2x8192x1, .f32⟩
  | 83 => ⟨S2x8192x1, .f32⟩
  | 84 => ⟨S2x8192x1024, .f32⟩
  | 85 => ⟨S2x8192x1024, .f32⟩
  | 86 => ⟨S1x1x1024, .f32⟩
  | 87 => ⟨S2x8192x1024, .f32⟩
  | 88 => ⟨S2x8192x1024, .f32⟩
  | 89 => ⟨S2x8192x1024, .f32⟩
  | 90 => ⟨S2x8192x4x256, .f32⟩
  | 91 => ⟨S2x8192x4x256, .f32⟩
  | 92 => ⟨S_, .f32⟩
  | 93 => ⟨S2x8192x4, .f32⟩
  | 94 => ⟨S2x8192x4x1, .f32⟩
  | 95 => ⟨S_, .f32⟩
  | 96 => ⟨S2x8192x4x1, .f32⟩
  | 97 => ⟨S2x8192x4x1, .f32⟩
  | 98 => ⟨S_, .f32⟩
  | 99 => ⟨S2x8192x4x1, .f32⟩
  | 100 => ⟨S2x8192x4x1, .f32⟩
  | 101 => ⟨S2x8192x4x1, .f32⟩
  | 102 => ⟨S2x8192x4x256, .f32⟩
  | 103 => ⟨S2x8192x4x256, .f32⟩
  | 104 => ⟨S1x1x1x256, .f32⟩
  | 105 => ⟨S2x8192x4x256, .f32⟩
  | 106 => ⟨S2x8192x4x256, .f32⟩
  | 107 => ⟨S2x4x8192x256, .f32⟩
  | 108 => ⟨S_, .f32⟩
  | 109 => ⟨S2x4x8192x256, .f32⟩
  | 110 => ⟨S2x4x8192x256, .f32⟩
  | 111 => ⟨S_, .f32⟩
  | 112 => ⟨S2x4x8192, .f32⟩
  | 113 => ⟨S_, .f32⟩
  | 114 => ⟨S2x4x8192, .f32⟩
  | 115 => ⟨S2x4x8192, .f32⟩
  | 116 => ⟨S2x4x8192x1, .f32⟩
  | 117 => ⟨S2x4x8192x256, .f32⟩
  | 118 => ⟨S2x4x8192x256, .f32⟩
  | 119 => ⟨S2x4x8192x256, .f32⟩
  | 120 => ⟨S_, .f32⟩
  | 121 => ⟨S2x4x8192, .f32⟩
  | 122 => ⟨S2x4x8192x1, .f32⟩
  | 123 => ⟨S2x4x8192x256, .f32⟩
  | 124 => ⟨S2x4x8192x256, .f32⟩
  | 125 => ⟨S2x4x256x8192, .f32⟩
  | 126 => ⟨S2x8192x4x256, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S16384x1024, .f32⟩
  | 3 => ⟨S1024x16384, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_cst_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]
-- ==== MemKv.lean ====
abbrev S2x256x1024 : Shape := ⟨3, ![2, 256, 1024]⟩
abbrev S1024 : Shape := ⟨1, ![1024]⟩
abbrev S1024x1024 : Shape := ⟨2, ![1024, 1024]⟩
abbrev S256 : Shape := ⟨1, ![256]⟩
abbrev S1x1024 : Shape := ⟨2, ![1, 1024]⟩
abbrev S1x256 : Shape := ⟨2, ![1, 256]⟩
abbrev S1x256x1024 : Shape := ⟨3, ![1, 256, 1024]⟩
abbrev S256x1024 : Shape := ⟨2, ![256, 1024]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 11
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1x256, .f32⟩
  | .hbm, ⟨9, _⟩ => ⟨S2x256x1024, .bf16⟩
  | .hbm, ⟨10, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvRefIdeal.lean ====
abbrev S2x256x1024 : Shape := ⟨3, ![2, 256, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S1x1x1x256 : Shape := ⟨4, ![1, 1, 1, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S2x256x4x256, .f32⟩
  | .hbm, ⟨23, _⟩ => ⟨S2x256x4x256, .f32⟩
  | .hbm, ⟨24, _⟩ => ⟨S_, .f32⟩
  | .hbm, ⟨25, _⟩ => ⟨S2x256x4, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S2x256x4x1, .f32⟩
  | .hbm, ⟨34, _⟩ => ⟨S2x256x4x256, .f32⟩
  | .hbm, ⟨35, _⟩ => ⟨S2x256x4x256, .f32⟩
  | .hbm, ⟨36, _⟩ => ⟨S1x1x1x256, .f32⟩
  | .hbm, ⟨37, _⟩ => ⟨S2x256x4x256, .f32⟩
  | .hbm, ⟨38, _⟩ => ⟨S2x256x4x256, .f32⟩
  | .hbm, ⟨39, _⟩ => ⟨S2x256x1024, .f32⟩
  | .hbm, ⟨40, _⟩ => ⟨S2x256x4x256, .f32⟩
  | .hbm, ⟨41, _⟩ => ⟨S2x256x1024, .f32⟩
  | .hbm, ⟨42, _⟩ => ⟨S2x256x1024, .bf16⟩
  | .hbm, ⟨43, _⟩ => ⟨S2x256x1024, .f32⟩
  | .hbm, ⟨44, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Finite.lean ====
module

public import Idealize.ShloMosaic.Lib.Pointwise
public import Idealize.ShloMosaic.Lib.Claim

@[expose] public section

noncomputable section

/-! # Arrays strictly between the infinities -/

namespace Cert.Finite

open Idealize.ShloMosaic

/-- An element below `+∞` and above `-∞`, as the host compares them, is a real. -/
theorem real_of_bit (x : EReal) (h : IntOp.andi (Ideal.cmp .olt x (Ideal.ofBits .f32 0x7F800000#32))
    (Ideal.cmp .ogt x (Ideal.ofBits .f32 0xFF800000#32)) = 1#1) : ∃ r : ℝ, x = (r : EReal) := by
  have ht : Ideal.ofBits FTy.f32 0x7F800000#32 = ⊤ := by simp [Ideal.ofBits, Ideal.ieee]
  have hb : Ideal.ofBits FTy.f32 0xFF800000#32 = ⊥ := by simp [Ideal.ofBits, Ideal.ieee]
  rw [ht, hb] at h
  induction x using EReal.rec with
  | bot => exact absurd h (by simp [Ideal.cmp, IntOp.andi])
  | coe r => exact ⟨r, rfl⟩
  | top => exact absurd h (by simp [Ideal.cmp, IntOp.andi])

end Cert.Finite
-- ==== Proof.Attn.Head.lean ====
module

public import proofs.«01_k».proof.Proof.Gen.AttnIdeal.Frame
public import Idealize.ShloMosaic.Lib.Pipeline.ValueKit
public import Idealize.ShloMosaic.Lib.Pointwise
public import Idealize.ShloMosaic.Lib.Claim

@[expose] public section

set_option maxRecDepth 16384

noncomputable section

/-! # One head of one group of the banded attention, read at an index -/

namespace Cert.AttnIdeal.Head

open Cert.AttnIdeal Cert.AttnIdeal.Gen Idealize.ShloMosaic Idealize.ShloMosaic.TcCoe Idealize.SL.Sem

/-- The masked score of one query against key `s`: the query times the key plus the bias, `⊥` where the key is not valid. -/
def score (q : Fin 64 → EReal) (k : Fin 768 → Fin 64 → EReal) (ok : Fin 768 → BitVec 1) (b : Fin 768 → EReal)
    (s : Fin 768) : EReal :=
  if ok s = 1#1 then (∑ e : Fin 64, q e * k s e) + b s else ⊥

/-- The softmax average with ONE division at the end: `(∑ p v) / (∑ p)`, `p` the exponentials below the maximum. -/
def average (S : Fin 768 → EReal) (v : Fin 768 → EReal) : EReal :=
  Ideal.div (∑ s, Ideal.exp (S s - Finset.univ.fold max ⊥ S) * v s)
    (∑ s, Ideal.exp (S s - Finset.univ.fold max ⊥ S))

/-- What the body computes for one head of one group, its operands already cut out. -/
def headV (Q : FVec Ideal S256x64 .bf16) (K V : FVec Ideal S768x64 .bf16) (ok : IVec S1x768 1)
    (b : Vec Ideal S1x256x768 .f32) : FVec Ideal S1x256x64 .f32 :=
  have sc : FVec Ideal S256x768 .f32 :=
    select (broadcastTo S256x768 (shapeCast S1x768 ok shapeCasts_S1x768_S1x768) broadcasts_S1x768_S256x768)
      (addf (matmul dot_S256x64_S768x64_S256x768_1_1_0_0_n_n none Q K (constant S256x768 .f32 0x00000000#32))
        (shapeCast S256x768 b shapeCasts_S1x256x768_S256x768))
      (broadcast S256x768 (Named.named κ "mask" 0xF149F2CA#32))
  have p : FVec Ideal S256x768 .f32 :=
    exp (subf sc (broadcastTo S256x768 (shapeCast S256x1
      (multiReduction .maximumf [1] S256 sc 0xFF800000#32 reduces_S256x768_S256 (.inl rfl) rfl)
      shapeCasts_S256_S256x1) broadcasts_S256x1_S256x768))
  shapeCast S1x256x64
    (divf (matmul dot_S256x768_S768x64_S256x64_1_0_0_1_n_n none (truncf .bf16 p bitsLt_bf16_f32) V
        (constant S256x64 .f32 0x00000000#32))
      (broadcastTo S256x64 (shapeCast S256x1
        (multiReduction .add [1] S256 p 0x00000000#32 reduces_S256x768_S256 (.inl rfl) rfl)
        shapeCasts_S256_S256x1) broadcasts_S256x1_S256x64))
    shapeCasts_S256x64_S1x256x64

/-- The mask constant is `⊥`. -/
theorem mask_eq : (Named.named κ "mask" 0xF149F2CA#32 : Ideal .f32) = ⊥ := rfl

/-- The row maximum starts at `⊥`. -/
theorem init_eq : Ideal.ofBits FTy.f32 0xFF800000#32 = ⊥ := by simp [Ideal.ofBits, Ideal.ieee]

/-- `headV` at row `r`, column `e` is the softmax average of the values by the masked scores of the row. -/
theorem headV_apply (Q : FVec Ideal S256x64 .bf16) (K V : FVec Ideal S768x64 .bf16) (ok : IVec S1x768 1)
    (b : Vec Ideal S1x256x768 .f32) (z : Fin 1) (r : Fin 256) (e : Fin 64) :
    headV Q K V ok b (ix3 z r e)
      = average (score (fun e' => Q (ix2 r e')) (fun s e' => K (ix2 s e')) (fun s => ok (ix2 0 s)) (fun s => b (ix3 0 r s)))
          (fun s => V (ix2 s e)) := by
  pointwise [headV, average, score]
  rw [mask_eq, init_eq]
  rfl

end Cert.AttnIdeal.Head
-- ==== Proof.Attn.Block.lean ====
module

public import proofs.«01_k».proof.Proof.Attn.Head

@[expose] public section

set_option maxRecDepth 16384

noncomputable section

/-! # The attention kernel's block of 512 rows, read at an index -/

namespace Cert.AttnIdeal.Block

open Cert.AttnIdeal Cert.AttnIdeal.Gen Cert.AttnIdeal.Head Idealize.ShloMosaic Idealize.ShloMosaic.TcCoe Idealize.SL.Sem

/-- Row `n` of the two blocks of 512 rows one after the other. -/
def cat (x y : Vec Ideal S1x512x512 .bf16) (n : ℕ) (d : Fin 512) : EReal :=
  if h : n < 512 then x (ix3 0 ⟨n, h⟩ d) else if h' : n - 512 < 512 then y (ix3 0 ⟨n - 512, h'⟩ d) else 0

/-- Column `e` of head `h`. -/
def col (h : Fin 8) (e : Fin 64) : Fin 512 := ⟨64 * (h : ℕ) + e, by omega⟩

/-- What the block holds at row `r` of group `g`, column `e` of head `h`, for a validity `ok` of the keys of the window. -/
def tileAt (ok : Fin 2 → Fin 768 → BitVec 1) (x0 x1 x2 x3 x4 : Vec Ideal S1x512x512 .bf16) (x5 : Vec Ideal S8x256x768 .f32)
    (g : Fin 2) (r : Fin 256) (h : Fin 8) (e : Fin 64) : EReal :=
  average (score (fun e' => x0 (ix3 0 ⟨256 * (g : ℕ) + r, by omega⟩ (col h e')))
      (fun s e' => cat x1 x2 (256 * (g : ℕ) + s) (col h e')) (ok g) (fun s => x5 (ix3 h r s)))
    (fun s => cat x3 x4 (256 * (g : ℕ) + s) (col h e))

/-- The kernel's own validity bits, group by group. -/
def okBits (a : BitVec 32) (g : Fin 2) (s : Fin 768) : BitVec 1 :=
  if (g : ℕ) = 0 then k0_pay8 a k0_pay4 (ix2 0 s) else k0_pay30 a k0_pay4 (ix2 0 s)

/-- A head's value over operands that are the block's own rows and columns is `tileAt`. -/
theorem head_tile (Q : FVec Ideal S256x64 .bf16) (K V : FVec Ideal S768x64 .bf16) (ok : IVec S1x768 1)
    (b : Vec Ideal S1x256x768 .f32) (okf : Fin 2 → Fin 768 → BitVec 1) (x0 x1 x2 x3 x4 : Vec Ideal S1x512x512 .bf16)
    (x5 : Vec Ideal S8x256x768 .f32) (x : S1x256x64.Idx) (g : Fin 2) (r : Fin 256) (hd : Fin 8) (e : Fin 64)
    (hr : (x 1).val = r.val) (he : (x 2).val = e.val)
    (hQ : ∀ e' : Fin 64, Q (ix2 r e') = x0 (ix3 0 ⟨256 * (g : ℕ) + r, by omega⟩ (col hd e')))
    (hK : ∀ (s : Fin 768) (e' : Fin 64), K (ix2 s e') = cat x1 x2 (256 * (g : ℕ) + s) (col hd e'))
    (hV : ∀ s : Fin 768, V (ix2 s e) = cat x3 x4 (256 * (g : ℕ) + s) (col hd e))
    (hok : ∀ s : Fin 768, ok (ix2 0 s) = okf g s)
    (hb : ∀ s : Fin 768, b (ix3 0 r s) = x5 (ix3 hd r s)) :
    headV Q K V ok b x = tileAt okf x0 x1 x2 x3 x4 x5 g r hd e := by
  have hx : x = ix3 (x 0) r e := by
    funext a; match a with
    | ⟨0, _⟩ => rfl
    | ⟨1, _⟩ => exact Fin.ext hr
    | ⟨2, _⟩ => exact Fin.ext he
  refine (congrArg (headV Q K V ok b) hx).trans ((headV_apply Q K V ok b _ r e).trans ?_)
  simp only [hQ, hK, hV, hok, hb]
  rfl

section Operands
variable (i : grid0.Coords) (x0 x1 x2 x3 x4 : Vec Ideal S1x512x512 .bf16) (x5 : Vec Ideal S8x256x768 .f32)

theorem q0_apply (r : Fin 256) (d : Fin 512) :
    k0_pay49 (F := Ideal) i x0 x1 x2 x3 x4 x5 (ix2 r d) = x0 (ix3 0 ⟨(r : ℕ), by omega⟩ d) := by
  pointwise [k0_pay49, k0_pay5]; blk_ext

theorem q1_apply (r : Fin 256) (d : Fin 512) :
    k0_pay53 (F := Ideal) i x0 x1 x2 x3 x4 x5 (ix2 r d) = x0 (ix3 0 ⟨256 + (r : ℕ), by omega⟩ d) := by
  pointwise [k0_pay53, k0_pay27]; blk_ext

theorem k0_apply (s : Fin 768) (d : Fin 512) :
    k0_pay50 (F := Ideal) i x0 x1 x2 x3 x4 x5 (ix2 s d) = cat x1 x2 (s : ℕ) d := by
  pointwise [k0_pay50, k0_pay6, k0_pay46, k0_pay2, cat]; blk_point [] <;> omega

theorem k1_apply (s : Fin 768) (d : Fin 512) :
    k0_pay54 (F := Ideal) i x0 x1 x2 x3 x4 x5 (ix2 s d) = cat x1 x2 (256 + (s : ℕ)) d := by
  pointwise [k0_pay54, k0_pay28, k0_pay46, k0_pay2, cat]; blk_point [] <;> omega

theorem v0_apply (s : Fin 768) (d : Fin 512) :
    k0_pay51 (F := Ideal) i x0 x1 x2 x3 x4 x5 (ix2 s d) = cat x3 x4 (s : ℕ) d := by
  pointwise [k0_pay51, k0_pay7, k0_pay47, k0_pay3, cat]; blk_point [] <;> omega

theorem v1_apply (s : Fin 768) (d : Fin 512) :
    k0_pay55 (F := Ideal) i x0 x1 x2 x3 x4 x5 (ix2 s d) = cat x3 x4 (256 + (s : ℕ)) d := by
  pointwise [k0_pay55, k0_pay29, k0_pay47, k0_pay3, cat]; blk_point [] <;> omega

end Operands

set_option maxHeartbeats 2000000 in
/-- The block after the body is `tileAt`, row by row and column by column. -/
theorem out_apply (i : grid0.Coords) (x0 x1 x2 x3 x4 : Vec Ideal S1x512x512 .bf16) (x5 : Vec Ideal S8x256x768 .f32)
    (y : S1x512x512.Idx) (g : Fin 2) (r : Fin 256) (hd : Fin 8) (e : Fin 64)
    (hy1 : (y 1).val = 256 * g.val + r.val) (hy2 : (y 2).val = 64 * hd.val + e.val) :
    out0_6 (F := Ideal) i x0 x1 x2 x3 x4 x5 y
      = tileAt (okBits (BitVec.ofNat 32 (i 1).val)) x0 x1 x2 x3 x4 x5 g r hd e := by
  unfold out0_6
  canon_tiles x h
  all_goals
    change headV _ _ _ _ _ _ = _
    have hg : (g : ℕ) = 0 ∨ (g : ℕ) = 1 := by omega
    refine head_tile _ _ _ _ _ _ x0 x1 x2 x3 x4 x5 x g r hd e (by omega) (by omega) (fun e' => ?_) (fun s e' => ?_)
      (fun s => ?_) (fun s => ?_) (fun s => ?_)
    · pointwise [k0_pay19, k0_pay37]
      first
        | (refine (q0_apply i x0 x1 x2 x3 x4 x5 _ _).trans ?_
           exact congrArg₂ (fun a b => x0 (ix3 0 a b)) (Fin.ext (by simp only; omega)) (Fin.ext (by simp only [col]; omega)))
        | (refine (q1_apply i x0 x1 x2 x3 x4 x5 _ _).trans ?_
           exact congrArg₂ (fun a b => x0 (ix3 0 a b)) (Fin.ext (by simp only; omega)) (Fin.ext (by simp only [col]; omega)))
    · pointwise [k0_pay20, k0_pay38]
      first
        | (refine (k0_apply i x0 x1 x2 x3 x4 x5 _ _).trans ?_
           exact congrArg₂ (cat x1 x2) (by omega) (Fin.ext (by simp only [col]; omega)))
        | (refine (k1_apply i x0 x1 x2 x3 x4 x5 _ _).trans ?_
           exact congrArg₂ (cat x1 x2) (by omega) (Fin.ext (by simp only [col]; omega)))
    · pointwise [k0_pay25]
      first
        | (refine (v0_apply i x0 x1 x2 x3 x4 x5 _ _).trans ?_
           exact congrArg₂ (cat x3 x4) (by omega) (Fin.ext (by simp only [col]; omega)))
        | (refine (v1_apply i x0 x1 x2 x3 x4 x5 _ _).trans ?_
           exact congrArg₂ (cat x3 x4) (by omega) (Fin.ext (by simp only [col]; omega)))
    · unfold okBits
      first
        | (rw [if_pos (by omega)]; rfl)
        | (rw [if_neg (by omega)]; rfl)
    · pointwise
      exact congrArg (fun a => x5 (ix3 a r s)) (Fin.ext (by simp; omega))

end Cert.AttnIdeal.Block
-- ==== Proof.Attn.Entry.lean ====
module

public import proofs.«01_k».proof.Proof.Gen.AttnIdeal.Frame
public import Idealize.ShloMosaic.Lib.Pipeline.ValueKit
public import Idealize.ShloMosaic.Lib.Pointwise
public import Idealize.ShloMosaic.Lib.Claim
public import Idealize.ShloMosaic.Lib.KernelVsHost
public import Idealize.ShloMosaic.Lib.ValueIdxRank6

@[expose] public section

set_option maxRecDepth 16384

noncomputable section

/-! # What the attention kernel's region finds in its operands -/

namespace Cert.AttnIdeal.Entry

open Cert.AttnIdeal Cert.AttnIdeal.Gen Idealize.ShloMosaic Idealize.ShloMosaic.TcCoe Idealize.SL.Sem

/-- `⌊x / 64⌋` of a column of words, as the host computes it. -/
def rowDiv (x : IVec S256x1 32) : IVec S256x1 32 :=
  select (andi (cmpi .ne (signi x) (broadcastInDim S256x1 ![] bcast_S_S256x1 (signi (constantI S_ 32 64#32))))
      (cmpi .ne (Host.remsi x (broadcastInDim S256x1 ![] bcast_S_S256x1 (constantI S_ 32 64#32)))
        (broadcastInDim S256x1 ![] bcast_S_S256x1 (constantI S_ 32 0#32))))
    (subi (Host.divsi x (broadcastInDim S256x1 ![] bcast_S_S256x1 (constantI S_ 32 64#32)))
      (broadcastInDim S256x1 ![] bcast_S_S256x1 (constantI S_ 32 1#32)))
    (Host.divsi x (broadcastInDim S256x1 ![] bcast_S_S256x1 (constantI S_ 32 64#32)))

/-- `⌊x / 64⌋` of a row of words, as the host computes it. -/
def keyDiv (x : IVec S1x768 32) : IVec S1x768 32 :=
  select (andi (cmpi .ne (signi x) (broadcastInDim S1x768 ![] bcast_S_S1x768 (signi (constantI S_ 32 64#32))))
      (cmpi .ne (Host.remsi x (broadcastInDim S1x768 ![] bcast_S_S1x768 (constantI S_ 32 64#32)))
        (broadcastInDim S1x768 ![] bcast_S_S1x768 (constantI S_ 32 0#32))))
    (subi (Host.divsi x (broadcastInDim S1x768 ![] bcast_S_S1x768 (constantI S_ 32 64#32)))
      (broadcastInDim S1x768 ![] bcast_S_S1x768 (constantI S_ 32 1#32)))
    (Host.divsi x (broadcastInDim S1x768 ![] bcast_S_S1x768 (constantI S_ 32 64#32)))

/-- The chunk of each query row of a group. -/
def rowChunk : IVec S256x1 32 := rowDiv (broadcastInDim S256x1 ![0] bcast_S256_S256x1_0 (iotaInDim S256 32 0))

/-- The chunk of each key row of a window. -/
def keyChunk : IVec S1x768 32 := keyDiv (broadcastInDim S1x768 ![1] bcast_S768_S1x768_1 (iotaInDim S768 32 0))

/-- The band of a tile, as the host computes it. -/
def bandBits : IVec S256x768 1 :=
  andi (cmpi .sge (broadcastInDim S256x768 ![0, 1] bcast_S1x768_S256x768_0_1 keyChunk)
      (broadcastInDim S256x768 ![0, 1] bcast_S256x1_S256x768_0_1 rowChunk))
    (cmpi .sle (broadcastInDim S256x768 ![0, 1] bcast_S1x768_S256x768_0_1 keyChunk)
      (broadcastInDim S256x768 ![0, 1] bcast_S256x1_S256x768_0_1
        (addi rowChunk (broadcastInDim S256x1 ![] bcast_S_S256x1 (constantI S_ 32 8#32)))))

/-- The buckets of one row of 1024 distances, as a column of words. -/
def buckets : IVec S1024x1 32 :=
  broadcastInDim S1024x1 ![0] bcast_S1024_S1024x1_0
    (select (constantI S1024 1 0#1)
      (addi (fun i => lit0 (S1024.rowMajor i)) (broadcastInDim S1024 ![] bcast_S_S1024 (constantI S_ 32 192#32)))
      fun i => lit0 (S1024.rowMajor i))

/-- The bias row of each head over 1024 distances. -/
def biasRow (rb : FVec Ideal S8x192 .f32) : FVec Ideal S8x1024 .f32 :=
  Host.gather gather_S8x192_S1024x1_S8x1024_0_1_n_n_1_1_81 rb buckets

/-- The rows laid out as a tile: each row the one before it shifted by one place. -/
def skew (y : FVec Ideal S8x1024 .f32) : FVec Ideal S8x256x768 .f32 :=
  extractStridedSlice S8x256x768 ![0, 0, 0]
    (shapeCast S8x256x1023
      (extractStridedSlice S8x261888 ![0, 0]
        (shapeCast S8x262144
          (broadcastInDim S1x8x256x1024 ![0, 1, 2, 3] bcast_S1x8x1x1024_S1x8x256x1024_0_1_2_3
            (shapeCast S1x8x1x1024 y shapeCasts_S8x1024_S1x8x1x1024))
          shapeCasts_S1x8x256x1024_S8x262144)
        slices_S8x262144_S8x261888_0_0)
      shapeCasts_S8x261888_S8x256x1023)
    slices_S8x256x1023_S8x256x768_0_0_0

/-- The bias tile of every head, `⊥` outside the band. -/
def tile (rb : FVec Ideal S8x192 .f32) : FVec Ideal S8x256x768 .f32 :=
  select (broadcastInDim S8x256x768 ![0, 1, 2] bcast_S1x256x768_S8x256x768_0_1_2
      (broadcastInDim S1x256x768 ![1, 2] bcast_S256x768_S1x256x768_1_2 bandBits))
    (skew (biasRow rb))
    (broadcastInDim S8x256x768 ![] bcast_S_S8x256x768 (constant S_ .f32 0xFF800000#32))

theorem row_chunk : ∀ r : Fin 256, rowChunk (ix2 r 0) = BitVec.ofNat 32 ((r : ℕ) / 64) := by decide +kernel

theorem key_chunk : ∀ s : Fin 768, keyChunk (ix2 0 s) = BitVec.ofNat 32 ((s : ℕ) / 64) := by decide +kernel

theorem band_word : ∀ (a : Fin 4) (b : Fin 12),
    IntOp.andi (IntOp.cmpi .sge (BitVec.ofNat 32 b) (BitVec.ofNat 32 a))
      (IntOp.cmpi .sle (BitVec.ofNat 32 b) (IntOp.addi (BitVec.ofNat 32 a) 8#32))
      = if (a : ℕ) ≤ b ∧ (b : ℕ) ≤ a + 8 then 1#1 else 0#1 := by decide +kernel

theorem band_bit (r : Fin 256) (s : Fin 768) :
    bandBits (ix2 r s) = if (r : ℕ) / 64 ≤ (s : ℕ) / 64 ∧ (s : ℕ) / 64 ≤ (r : ℕ) / 64 + 8 then 1#1 else 0#1 := by
  have hr := row_chunk r
  have hs := key_chunk s
  unfold bandBits
  revert hr hs
  generalize rowChunk = x
  generalize keyChunk = y
  intro hr hs
  pointwise
  rw [hr, hs]
  exact band_word ⟨(r : ℕ) / 64, by omega⟩ ⟨(s : ℕ) / 64, by omega⟩

theorem bucket_near : ∀ k : Fin 1024, ((k : ℕ) < 576 → (buckets (ix2 k 0)).toInt.toNat = min (575 - (k : ℕ)) 191)
    ∧ (576 ≤ (k : ℕ) → 961 ≤ (k : ℕ) → (buckets (ix2 k 0)).toInt.toNat = 191) := by decide +kernel

theorem biasRow_apply (rb : S8x192.Idx → EReal) (h : Fin 8) (k : Fin 1024) (n : ℕ) (hn : n < 192)
    (hk : (buckets (ix2 k 0)).toInt.toNat = n) : biasRow rb (ix2 h k) = rb (ix2 h ⟨n, hn⟩) := by
  revert hk
  unfold biasRow
  generalize buckets = idx
  intro hk
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  simp only [Nat.add_zero]
  have h01 : a = 0 ∨ a = 1 := by
    match a with
    | ⟨0, _⟩ => exact Or.inl rfl
    | ⟨1, _⟩ => exact Or.inr rfl
  rcases h01 with rfl | rfl
  · have hst : GatherDims.start gather_S8x192_S1024x1_S8x1024_0_1_n_n_1_1_81 (ix2 h k) idx 0 = 0 := by
      unfold GatherDims.start
      rw [dif_neg (by decide)]
    rw [hst, Nat.zero_add]
    unfold GatherDims.offCoord
    rw [dif_pos (show (0 : Fin 2) ∈ GatherDims.sKept gather_S8x192_S1024x1_S8x1024_0_1_n_n_1_1_81 by decide)]
    rfl
  · rw [GatherDims.offCoord_eq_zero _ _ _ (fun h => ((GatherDims.mem_sKept _ _).mp h).1 (List.mem_singleton.mpr rfl))]
    unfold GatherDims.start
    rw [dif_pos (show (1 : Fin 2) ∈ GatherDims.startIndexMap gather_S8x192_S1024x1_S8x1024_0_1_n_n_1_1_81 from List.mem_singleton.mpr rfl)]
    have hsi : GatherDims.siIdx gather_S8x192_S1024x1_S8x1024_0_1_n_n_1_1_81 (ix2 h k)
        ⟨List.idxOf (1 : Fin 2) [1], List.idxOf_lt_length_iff.2 (List.mem_singleton.mpr rfl)⟩ = ix2 k 0 := by
      funext b; refine Fin.ext ?_
      match b with
      | ⟨0, _⟩ => rfl
      | ⟨1, _⟩ => rfl
    refine (congrArg (fun i => min (idx i).toInt.toNat (192 - 1) + 0) hsi).trans ?_
    show min (idx (ix2 k 0)).toInt.toNat (192 - 1) + 0 = n
    rw [hk]
    omega

theorem skew_apply (y : S8x1024.Idx → EReal) (h : Fin 8) (r : Fin 256) (s : Fin 768) :
    skew y (ix3 h r s) = y (ix2 h ⟨((r : ℕ) * 1023 + s) % 1024, by omega⟩) := by
  unfold skew
  pointwise

variable (m : (ℓ : Loc nD τ sig) → Buf (Elt Ideal) ℓ)

set_option maxHeartbeats 1600000 in
theorem bias_entry (c : Dev nD) : V m c main_v35 = tile (m (c.tc.loc main_arg3)) := by
  unfold V hostOps0 hostOps0_1 hostOps0_2 hostOps0_3 hostOps0_4 hostOps0_5
  simp only [List.flatten_cons, List.flatten_nil, List.append_nil, List.cons_append, List.nil_append]
  after_results
  rfl

theorem q_entry (c : Dev nD) : V m c main_v5 = shapeCast S2x8192x512
    (mulf (m (c.tc.loc main_arg0)) (broadcastInDim S2x8192x8x64 ![] bcast_S_S2x8192x8x64 (constant S_ .f32 0x3E000000#32)) : FVec Ideal S2x8192x8x64 .f32)
      shapeCasts_S2x8192x8x64_S2x8192x512 := by
  unfold V hostOps0 hostOps0_1 hostOps0_2 hostOps0_3 hostOps0_4 hostOps0_5
  simp only [List.flatten_cons, List.flatten_nil, List.append_nil, List.cons_append, List.nil_append]
  after_results
  rfl

theorem k_entry (c : Dev nD) : V m c main_v6 = shapeCast S2x8192x512 (m (c.tc.loc main_arg1) : FVec Ideal S2x8192x8x64 .f32)
      shapeCasts_S2x8192x8x64_S2x8192x512 := by
  unfold V hostOps0 hostOps0_1 hostOps0_2 hostOps0_3 hostOps0_4 hostOps0_5
  simp only [List.flatten_cons, List.flatten_nil, List.append_nil, List.cons_append, List.nil_append]
  after_results
  rfl

theorem v_entry (c : Dev nD) : V m c main_v7 = shapeCast S2x8192x512 (m (c.tc.loc main_arg2) : FVec Ideal S2x8192x8x64 .f32)
      shapeCasts_S2x8192x8x64_S2x8192x512 := by
  unfold V hostOps0 hostOps0_1 hostOps0_2 hostOps0_3 hostOps0_4 hostOps0_5
  simp only [List.flatten_cons, List.flatten_nil, List.append_nil, List.cons_append, List.nil_append]
  after_results
  rfl

/-- The tile of the host at a row and a key of the window: the head's bias at the clipped distance, `⊥` outside the band. -/
theorem tile_apply (rb : S8x192.Idx → EReal) (h : Fin 8) (r : Fin 256) (s : Fin 768) :
    tile rb (ix3 h r s) = if (r : ℕ) / 64 ≤ (s : ℕ) / 64 ∧ (s : ℕ) / 64 ≤ (r : ℕ) / 64 + 8
      then rb (ix2 h ⟨min (575 + (r : ℕ) - s) 191, by omega⟩) else ⊥ := by
  have hb := band_bit r s
  have hk := skew_apply (biasRow rb) h r s
  unfold tile
  revert hb hk
  generalize bandBits = x
  generalize skew (biasRow rb) = y
  intro hb hk
  pointwise
  rw [hb, hk]
  by_cases hc : (r : ℕ) / 64 ≤ (s : ℕ) / 64 ∧ (s : ℕ) / 64 ≤ (r : ℕ) / 64 + 8
  · rw [if_pos hc, if_pos hc]
    refine (biasRow_apply rb h _ (min (575 + (r : ℕ) - s) 191) (by omega) ?_)
    have hn := bucket_near ⟨((r : ℕ) * 1023 + s) % 1024, by omega⟩
    by_cases hrs : (r : ℕ) ≤ s
    · refine (hn.1 (by simp only; omega)).trans ?_
      simp only; omega
    · refine (hn.2 (by simp only; omega) (by simp only; omega)).trans ?_
      omega
  · rw [if_neg hc, if_neg hc]
    show Ideal.ofBits FTy.f32 0xFF800000#32 = ⊥
    simp [Ideal.ofBits, Ideal.ieee]

theorem q_at (c : Dev nD) (b : Fin 2) (t : Fin 8192) (h : Fin 8) (e : Fin 64) (d : Fin 512) (hd : (d : ℕ) = 64 * h + e) :
    V m c main_v5 (ix3 b t d)
      = HMul.hMul (α := EReal) (β := EReal) (m (c.tc.loc main_arg0) (ix4 b t h e)) (Ideal.ofBits FTy.f32 0x3E000000#32) := by
  rw [q_entry]
  generalize (m (c.tc.loc main_arg0) : S2x8192x8x64.Idx → EReal) = x
  refine (shapeCast_apply _ _ _ (ix4 b t h e) (by rw [Shape.rowMajor_val_four, Shape.rowMajor_val_three]; show (((b : ℕ) * 8192 + t) * 8 + h) * 64 + e = ((b : ℕ) * 8192 + t) * 512 + d; omega)).trans ?_
  pointwise

theorem k_at (c : Dev nD) (b : Fin 2) (t : Fin 8192) (h : Fin 8) (e : Fin 64) (d : Fin 512) (hd : (d : ℕ) = 64 * h + e) :
    V m c main_v6 (ix3 b t d) = (m (c.tc.loc main_arg1) : S2x8192x8x64.Idx → EReal) (ix4 b t h e) := by
  rw [k_entry]
  exact shapeCast_apply _ _ _ (ix4 b t h e) (by rw [Shape.rowMajor_val_four, Shape.rowMajor_val_three]; show (((b : ℕ) * 8192 + t) * 8 + h) * 64 + e = ((b : ℕ) * 8192 + t) * 512 + d; omega)

theorem v_at (c : Dev nD) (b : Fin 2) (t : Fin 8192) (h : Fin 8) (e : Fin 64) (d : Fin 512) (hd : (d : ℕ) = 64 * h + e) :
    V m c main_v7 (ix3 b t d) = (m (c.tc.loc main_arg2) : S2x8192x8x64.Idx → EReal) (ix4 b t h e) := by
  rw [v_entry]
  exact shapeCast_apply _ _ _ (ix4 b t h e) (by rw [Shape.rowMajor_val_four, Shape.rowMajor_val_three]; show (((b : ℕ) * 8192 + t) * 8 + h) * 64 + e = ((b : ℕ) * 8192 + t) * 512 + d; omega)

end Cert.AttnIdeal.Entry
-- ==== Proof.Soft.lean ====
module

public import Idealize.ShloMosaic.Lib.Pointwise
public import Idealize.ShloMosaic.Lib.Claim

@[expose] public section

noncomputable section

/-! # Softmax averages of extended reals -/

namespace Cert.Soft

open Idealize.ShloMosaic

/-- A real nonnegative factor moves into a sum from the right. -/
theorem sum_mul_right {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- The maximum over a finite type. -/
def top {ι : Type*} [Fintype ι] (S : ι → EReal) : EReal := Finset.univ.fold max ⊥ S

theorem top_eq_sup {ι : Type*} [Fintype ι] (S : ι → EReal) : top S = Finset.univ.sup S := rfl

/-- The exponential below the maximum. -/
def weight {ι : Type*} [Fintype ι] (S : ι → EReal) (i : ι) : EReal := Ideal.exp (S i - top S)

/-- The maximum of scores none of which is `⊤`, one of which is not `⊥`, is one of them. -/
theorem top_attained {ι : Type*} [Fintype ι] (S : ι → EReal) (hex : ∃ i, S i ≠ ⊥) : ∃ i, top S = S i ∧ S i ≠ ⊥ := by
  obtain ⟨i, hi⟩ := hex
  obtain ⟨j, -, hj⟩ := Finset.exists_mem_eq_sup (Finset.univ : Finset ι) ⟨i, Finset.mem_univ i⟩ S
  refine ⟨j, hj, fun h => hi ?_⟩
  have : S i ≤ Finset.univ.sup S := Finset.le_sup (Finset.mem_univ i)
  rw [hj, h] at this
  exact le_bot_iff.mp this

/-- Each weight is a nonnegative real, and the sum of the weights is a positive real. -/
theorem weight_real {ι : Type*} [Fintype ι] (S : ι → EReal) (htop : ∀ i, S i ≠ ⊤) (hex : ∃ i, S i ≠ ⊥) :
    ∃ w : ι → ℝ, (∀ i, weight S i = (w i : EReal)) ∧ (∀ i, 0 ≤ w i) ∧ 0 < ∑ i, w i := by
  obtain ⟨j, hj, hjb⟩ := top_attained S hex
  obtain ⟨m, hm⟩ : ∃ m : ℝ, S j = (m : EReal) := ⟨(S j).toReal, (EReal.coe_toReal (htop j) hjb).symm⟩
  have hval : ∀ i, weight S i = ((if S i = ⊥ then 0 else Real.exp ((S i).toReal - m) : ℝ) : EReal) := by
    intro i
    unfold weight
    rw [hj, hm]
    by_cases hb : S i = ⊥
    · rw [if_pos hb, hb, EReal.bot_sub, Ideal.exp_bot]; rfl
    · rw [if_neg hb]
      conv_lhs => rw [← EReal.coe_toReal (htop i) hb]
      rw [← EReal.coe_sub, Ideal.exp_coe]
  have hnn : ∀ i, 0 ≤ (if S i = ⊥ then 0 else Real.exp ((S i).toReal - m) : ℝ) := by
    intro i; split
    · exact le_rfl
    · exact (Real.exp_pos _).le
  refine ⟨_, hval, hnn, ?_⟩
  refine Finset.sum_pos' (fun i _ => hnn i) ⟨j, Finset.mem_univ j, ?_⟩
  rw [if_neg hjb]
  exact Real.exp_pos _

theorem coe_sum {ι : Type*} (t : Finset ι) (w : ι → ℝ) : ∑ i ∈ t, (w i : EReal) = ((∑ i ∈ t, w i : ℝ) : EReal) := by
  classical
  induction t using Finset.induction_on with
  | empty => simp
  | insert a t ha ih => rw [Finset.sum_insert ha, Finset.sum_insert ha, ih, EReal.coe_add]

/-- Dividing the average once at the end, or each weight first, gives the same; values need not be finite. -/
theorem div_sum {ι : Type*} [Fintype ι] (S : ι → EReal) (V : ι → EReal) (htop : ∀ i, S i ≠ ⊤) (hex : ∃ i, S i ≠ ⊥) :
    Ideal.div (∑ i, weight S i * V i) (∑ i, weight S i) = ∑ i, V i * Ideal.div (weight S i) (∑ i, weight S i) := by
  obtain ⟨w, hw, hnn, hpos⟩ := weight_real S htop hex
  have hL : ∑ i, weight S i = ((∑ i, w i : ℝ) : EReal) := by
    rw [← coe_sum]; exact Finset.sum_congr rfl fun i _ => hw i
  rw [hL, Ideal.div_coe hpos.ne', sum_mul_right _ _ _ (by positivity)]
  refine Finset.sum_congr rfl fun i _ => ?_
  rw [Ideal.div_coe hpos.ne', mul_comm (weight S i) (V i), mul_assoc]

/-- Scores that are `⊥` outside the image of `e` weigh nothing there: maximum, weights and sums are those of the scores on
    the small type. -/
theorem top_embed {ι κ : Type*} [Fintype ι] [Fintype κ] (e : κ → ι) (S : ι → EReal)
    (S' : κ → EReal) (hS : ∀ j, S (e j) = S' j) (hout : ∀ i, (∀ j, e j ≠ i) → S i = ⊥) : top S = top S' := by
  rw [top_eq_sup, top_eq_sup]
  refine le_antisymm (Finset.sup_le fun i _ => ?_) (Finset.sup_le fun j _ => ?_)
  · by_cases h : ∃ j, e j = i
    · obtain ⟨j, rfl⟩ := h
      rw [hS]; exact Finset.le_sup (Finset.mem_univ j)
    · rw [hout i fun j hj => h ⟨j, hj⟩]; exact bot_le
  · rw [← hS]; exact Finset.le_sup (Finset.mem_univ _)

theorem average_embed {ι κ : Type*} [Fintype ι] [Fintype κ] (e : κ → ι) (he : Function.Injective e) (S V : ι → EReal)
    (S' V' : κ → EReal) (hS : ∀ j, S (e j) = S' j) (hV : ∀ j, S' j ≠ ⊥ → V (e j) = V' j)
    (hout : ∀ i, (∀ j, e j ≠ i) → S i = ⊥) (htop : ∀ j, S' j ≠ ⊤) (hex : ∃ j, S' j ≠ ⊥) :
    Ideal.div (∑ i, weight S i * V i) (∑ i, weight S i) = ∑ j, V' j * Ideal.div (weight S' j) (∑ j, weight S' j) := by
  have ht := top_embed e S S' hS hout
  obtain ⟨j0, hj0, hj0b⟩ := top_attained S' hex
  have hbot : ∀ x : EReal, x = ⊥ → Ideal.exp (x - top S') = 0 := by
    rintro x rfl; rw [EReal.bot_sub, Ideal.exp_bot]
  have hw : ∀ j, weight S (e j) = weight S' j := fun j => by unfold weight; rw [ht, hS]
  have hz : ∀ i, i ∉ Set.range e → weight S i = 0 := fun i hi => by
    unfold weight; rw [ht]; exact hbot _ (hout i fun j hj => hi ⟨j, hj⟩)
  have h1 : ∑ j, weight S' j = ∑ i, weight S i :=
    Fintype.sum_of_injective e he _ _ hz fun j => (hw j).symm
  have h2 : ∑ j, weight S' j * V' j = ∑ i, weight S i * V i :=
    Fintype.sum_of_injective e he _ _ (fun i hi => by rw [hz i hi, zero_mul]) fun j => by
      by_cases hb : S' j = ⊥
      · rw [hw]; unfold weight; rw [hbot _ hb, zero_mul, zero_mul]
      · rw [hw, hV j hb]
  rw [← h1, ← h2]
  exact div_sum S' V' htop hex

end Cert.Soft
-- ==== Proof.Attn.RefBand.lean ====
module

public import proofs.«01_k».proof.Proof.Gen.AttnRefIdeal.Read
public import proofs.«01_k».proof.Proof.Soft
public import Idealize.ShloMosaic.Lib.Pipeline.ValueKit
public import Idealize.ShloMosaic.Lib.Pointwise
public import Idealize.ShloMosaic.Lib.Claim
public import Idealize.ShloMosaic.Lib.KernelVsHost
public import Idealize.ShloMosaic.Lib.ValueIdxRank6

@[expose] public section

set_option maxRecDepth 16384

noncomputable section

/-! # The banded attention of the reference, read at an index -/

namespace Cert.AttnRefIdeal.Band

open Cert.AttnRefIdeal Cert.AttnRefIdeal.Read Idealize.ShloMosaic Idealize.ShloMosaic.TcCoe Idealize.SL.Sem

/-- The gather of nine chunks of 64 rows, read at an index: the chunk the start index names. -/
theorem chunks_apply (x : S2x136x64x8x64.Idx → EReal) (idx : IVec S128x9x1 32) (b : Fin 2) (n : Fin 128) (j : Fin 9)
    (p : Fin 64) (h : Fin 8) (e : Fin 64) (k : ℕ) (hk : k < 136) (hidx : (idx (ix3 n j 0)).toInt.toNat = k) :
    Host.gather gather_S2x136x64x8x64_S128x9x1_S2x128x9x64x8x64_0345_1_n_n_1_2_2164864 x idx (ix6 b n j p h e)
      = x (ix5 b ⟨k, hk⟩ p h e) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  simp only [Nat.add_zero]
  have hst : ∀ a : Fin 5, a ≠ 1 → GatherDims.start gather_S2x136x64x8x64_S128x9x1_S2x128x9x64x8x64_0345_1_n_n_1_2_2164864
      (ix6 b n j p h e) idx a = 0 := fun a ha => by
    unfold GatherDims.start
    rw [dif_neg (show ¬ a ∈ GatherDims.startIndexMap gather_S2x136x64x8x64_S128x9x1_S2x128x9x64x8x64_0345_1_n_n_1_2_2164864 from
      fun hm => ha (List.mem_singleton.mp hm))]
  have h01 : a = 0 ∨ a = 2 ∨ a = 3 ∨ a = 4 ∨ a = 1 := by
    match a with
    | ⟨0, _⟩ => exact Or.inl rfl
    | ⟨1, _⟩ => exact Or.inr (Or.inr (Or.inr (Or.inr rfl)))
    | ⟨2, _⟩ => exact Or.inr (Or.inl rfl)
    | ⟨3, _⟩ => exact Or.inr (Or.inr (Or.inl rfl))
    | ⟨4, _⟩ => exact Or.inr (Or.inr (Or.inr (Or.inl rfl)))
  rcases h01 with rfl | rfl | rfl | rfl | rfl
  · rw [hst _ (by decide), Nat.zero_add]
    unfold GatherDims.offCoord
    rw [dif_pos (show (0 : Fin 5) ∈ GatherDims.sKept gather_S2x136x64x8x64_S128x9x1_S2x128x9x64x8x64_0345_1_n_n_1_2_2164864 by decide)]
    rfl
  · rw [hst _ (by decide), Nat.zero_add]
    unfold GatherDims.offCoord
    rw [dif_pos (show (2 : Fin 5) ∈ GatherDims.sKept gather_S2x136x64x8x64_S128x9x1_S2x128x9x64x8x64_0345_1_n_n_1_2_2164864 by decide)]
    rfl
  · rw [hst _ (by decide), Nat.zero_add]
    unfold GatherDims.offCoord
    rw [dif_pos (show (3 : Fin 5) ∈ GatherDims.sKept gather_S2x136x64x8x64_S128x9x1_S2x128x9x64x8x64_0345_1_n_n_1_2_2164864 by decide)]
    rfl
  · rw [hst _ (by decide), Nat.zero_add]
    unfold GatherDims.offCoord
    rw [dif_pos (show (4 : Fin 5) ∈ GatherDims.sKept gather_S2x136x64x8x64_S128x9x1_S2x128x9x64x8x64_0345_1_n_n_1_2_2164864 by decide)]
    rfl
  · rw [GatherDims.offCoord_eq_zero _ _ _ (fun h => ((GatherDims.mem_sKept _ _).mp h).1 (List.mem_singleton.mpr rfl))]
    unfold GatherDims.start
    rw [dif_pos (show (1 : Fin 5) ∈ GatherDims.startIndexMap gather_S2x136x64x8x64_S128x9x1_S2x128x9x64x8x64_0345_1_n_n_1_2_2164864 from List.mem_singleton.mpr rfl)]
    have hsi : GatherDims.siIdx gather_S2x136x64x8x64_S128x9x1_S2x128x9x64x8x64_0345_1_n_n_1_2_2164864 (ix6 b n j p h e)
        ⟨List.idxOf (1 : Fin 5) [1], List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    refine (congrArg (fun i => min (idx i).toInt.toNat (136 - 1) + 0) hsi).trans ?_
    show min (idx (ix3 n j 0)).toInt.toNat (136 - 1) + 0 = k
    rw [hidx]
    omega

/-- The bias looked up by a table of indices. -/
theorem bias_apply (x : S8x192.Idx → EReal) (idx : IVec S64x576x1 32) (h : Fin 8) (p : Fin 64) (j : Fin 576) (k : ℕ) (hk : k < 192)
    (hidx : (idx (ix3 p j 0)).toInt.toNat = k) :
    Host.gather gather_S8x192_S64x576x1_S8x64x576_0_1_n_n_1_2_81 x idx (ix3 h p j) = x (ix2 h ⟨k, hk⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  simp only [Nat.add_zero]
  have h01 : a = 0 ∨ a = 1 := by
    match a with
    | ⟨0, _⟩ => exact Or.inl rfl
    | ⟨1, _⟩ => exact Or.inr rfl
  rcases h01 with rfl | rfl
  · have hst : GatherDims.start gather_S8x192_S64x576x1_S8x64x576_0_1_n_n_1_2_81 (ix3 h p j) idx 0 = 0 := by
      unfold GatherDims.start
      rw [dif_neg (by decide)]
    rw [hst, Nat.zero_add]
    unfold GatherDims.offCoord
    rw [dif_pos (show (0 : Fin 2) ∈ GatherDims.sKept gather_S8x192_S64x576x1_S8x64x576_0_1_n_n_1_2_81 by decide)]
    rfl
  · rw [GatherDims.offCoord_eq_zero _ _ _ (fun h => ((GatherDims.mem_sKept _ _).mp h).1 (List.mem_singleton.mpr rfl))]
    unfold GatherDims.start
    rw [dif_pos (show (1 : Fin 2) ∈ GatherDims.startIndexMap gather_S8x192_S64x576x1_S8x64x576_0_1_n_n_1_2_81 from List.mem_singleton.mpr rfl)]
    have hsi : GatherDims.siIdx gather_S8x192_S64x576x1_S8x64x576_0_1_n_n_1_2_81 (ix3 h p j)
        ⟨List.idxOf (1 : Fin 2) [1], List.idxOf_lt_length_iff.2 (List.mem_singleton.mpr rfl)⟩ = ix3 p j 0 := by
      funext b; refine Fin.ext ?_
      match b with
      | ⟨0, _⟩ => rfl
      | ⟨1, _⟩ => rfl
      | ⟨2, _⟩ => rfl
    refine (congrArg (fun i => min (idx i).toInt.toNat (192 - 1) + 0) hsi).trans ?_
    show min (idx (ix3 p j 0)).toInt.toNat (192 - 1) + 0 = k
    rw [hidx]
    omega

/-- Key or value row `j` of the band of chunk `n`: `0` before the first row. -/
def kv (x : S2x8192x8x64.Idx → EReal) (b : Fin 2) (n : Fin 128) (j : Fin 576) (h : Fin 8) (e : Fin 64) : EReal :=
  if 8 ≤ (n : ℕ) + (j : ℕ) / 64 then x (ix4 b ⟨64 * (n : ℕ) + j - 512, by omega⟩ h e) else 0

theorem chunk_idx : ∀ (n : Fin 128) (j : Fin 9), (val_main_v17 (F := Ideal) (ix3 n j 0)).toInt.toNat = (n : ℕ) + j := by
  decide +kernel

theorem chunk_idx' : ∀ (n : Fin 128) (j : Fin 9), (val_main_v25 (F := Ideal) (ix3 n j 0)).toInt.toNat = (n : ℕ) + j := by
  decide +kernel

theorem fdiv_at : ∀ j : Fin 576, (val_main_v58 (F := Ideal) (ix1 j)) = BitVec.ofNat 32 ((j : ℕ) / 64) := by
  decide +kernel

/-- The bucket of a distance, as the words compute it, for every distance a band can have. -/
theorem bucket_word : ∀ e : Fin 639,
    (BitVec.toInt (Scalar.select
      (IntOp.cmpi CmpIPredicate.slt (IntOp.addi (IntOp.minsi 128#32 (IntOp.maxsi 4294967233#32
        (BitVec.ofNat 32 e - 63#32))) 63#32) 0#32)
      (IntOp.addi (IntOp.addi (IntOp.minsi 128#32 (IntOp.maxsi 4294967233#32 (BitVec.ofNat 32 e - 63#32))) 63#32) 192#32)
      (IntOp.addi (IntOp.minsi 128#32 (IntOp.maxsi 4294967233#32 (BitVec.ofNat 32 e - 63#32))) 63#32))).toNat
      = min (e : ℕ) 191 := by
  decide +kernel

theorem bucket_at : ∀ (p : Fin 64) (j : Fin 576), (val_main_v48 (F := Ideal) (ix3 p j 0)).toInt.toNat = min (575 + (p : ℕ) - j) 191 := by
  intro p j
  pointwise [val_main_v48, val_main_v47, val_main_v46, val_main_v45, val_main_c_10, val_main_v44, val_main_v43, val_main_c_9,
    val_main_v42, val_main_v41, val_main_c_8, val_main_v40, val_main_call2_v4, val_main_call2_v3, val_main_call2_v2,
    val_main_call2_v1, val_main_call2_v0, val_main_c_6, val_main_c_7, val_main_v39, val_main_v38, val_main_v37, val_main_v36,
    val_main_v35, val_main_v34, val_main_v33, val_main_c_5, val_main_v32, val_main_v31]
  have hd : IntOp.subi (IntOp.addi (512#32) (BitVec.ofNat 32 ↑p)) (BitVec.ofNat 32 ↑j)
      = BitVec.ofNat 32 (575 + (p : ℕ) - j) - 63#32 := by
    show (512#32 + BitVec.ofNat 32 ↑p) - BitVec.ofNat 32 ↑j = BitVec.ofNat 32 (575 + (p : ℕ) - j) - 63#32
    have := p.isLt; have := j.isLt
    bv_omega
  rw [hd]
  exact bucket_word ⟨575 + (p : ℕ) - j, by omega⟩

theorem k_band (x : S2x8192x8x64.Idx → EReal) (b : Fin 2) (n : Fin 128) (j : Fin 576) (h : Fin 8) (e : Fin 64) :
    val_main_v19 (F := Ideal) x (ix5 b n j h e) = kv x b n j h e := by
  unfold val_main_v19
  rw [shapeCast_apply _ _ _ (ix6 b n ⟨(j : ℕ) / 64, by omega⟩ ⟨(j : ℕ) % 64, by omega⟩ h e) (by
    rw [Shape.rowMajor_val_six, Shape.rowMajor_val_five]
    show (((((b : ℕ) * 128 + n) * 9 + (j : ℕ) / 64) * 64 + (j : ℕ) % 64) * 8 + h) * 64 + e = ((((b : ℕ) * 128 + n) * 576 + j) * 8 + h) * 64 + e
    omega)]
  unfold val_main_v18
  rw [chunks_apply _ _ _ _ _ _ _ _ ((n : ℕ) + (j : ℕ) / 64) (by omega) (chunk_idx n _)]
  unfold kv val_main_v2
  by_cases hv : 8 ≤ (n : ℕ) + (j : ℕ) / 64
  · rw [if_pos hv, pad_apply_of_inside _ _ _ _ _ _ _ _ (ix5 b ⟨(n : ℕ) + (j : ℕ) / 64 - 8, by omega⟩ ⟨(j : ℕ) % 64, by omega⟩ h e) (by
      intro a
      match a with
      | ⟨0, _⟩ => simp [ix5]
      | ⟨1, _⟩ => simp [ix5]; omega
      | ⟨2, _⟩ => simp [ix5]
      | ⟨3, _⟩ => simp [ix5]
      | ⟨4, _⟩ => simp [ix5])]
    pointwise [val_main_v1]
    blk_ext
  · rw [if_neg hv, pad_apply_of_not_inside _ _ _ _ _ _ _ _ 1 (by
      show ¬ (8 ≤ (n : ℕ) + (j : ℕ) / 64 ∧ _)
      exact fun hh => hv hh.1)]
    pointwise [val_main_call0_v0, val_main_c]
    show (((0#32 : BitVec 32).toInt : ℝ) : EReal) = 0
    simp

theorem v_band (x : S2x8192x8x64.Idx → EReal) (b : Fin 2) (n : Fin 128) (j : Fin 576) (h : Fin 8) (e : Fin 64) :
    val_main_v27 (F := Ideal) x (ix5 b n j h e) = kv x b n j h e := by
  unfold val_main_v27
  rw [shapeCast_apply _ _ _ (ix6 b n ⟨(j : ℕ) / 64, by omega⟩ ⟨(j : ℕ) % 64, by omega⟩ h e) (by
    rw [Shape.rowMajor_val_six, Shape.rowMajor_val_five]
    show (((((b : ℕ) * 128 + n) * 9 + (j : ℕ) / 64) * 64 + (j : ℕ) % 64) * 8 + h) * 64 + e = ((((b : ℕ) * 128 + n) * 576 + j) * 8 + h) * 64 + e
    omega)]
  unfold val_main_v26
  rw [chunks_apply _ _ _ _ _ _ _ _ ((n : ℕ) + (j : ℕ) / 64) (by omega) (chunk_idx' n _)]
  unfold kv val_main_v4
  by_cases hv : 8 ≤ (n : ℕ) + (j : ℕ) / 64
  · rw [if_pos hv, pad_apply_of_inside _ _ _ _ _ _ _ _ (ix5 b ⟨(n : ℕ) + (j : ℕ) / 64 - 8, by omega⟩ ⟨(j : ℕ) % 64, by omega⟩ h e) (by
      intro a
      match a with
      | ⟨0, _⟩ => simp [ix5]
      | ⟨1, _⟩ => simp [ix5]; omega
      | ⟨2, _⟩ => simp [ix5]
      | ⟨3, _⟩ => simp [ix5]
      | ⟨4, _⟩ => simp [ix5])]
    pointwise [val_main_v3]
    blk_ext
  · rw [if_neg hv, pad_apply_of_not_inside _ _ _ _ _ _ _ _ 1 (by
      show ¬ (8 ≤ (n : ℕ) + (j : ℕ) / 64 ∧ _)
      exact fun hh => hv hh.1)]
    pointwise [val_main_call1_v0, val_main_c_0]
    show (((0#32 : BitVec 32).toInt : ℝ) : EReal) = 0
    simp

/-- The bias of a query at place `p` of its chunk and row `j` of the band. -/
theorem bias_band (rb : S8x192.Idx → EReal) (h : Fin 8) (p : Fin 64) (j : Fin 576) :
    val_main_v49 (F := Ideal) rb (ix3 h p j) = rb (ix2 h ⟨min (575 + (p : ℕ) - j) 191, by omega⟩) := by
  unfold val_main_v49
  exact bias_apply rb _ h p j _ (by omega) (bucket_at p j)

/-- Whether a chunk of the band exists, as the words compute it. -/
theorem valid_word : ∀ (n : Fin 128) (c : Fin 9),
    IntOp.cmpi CmpIPredicate.sge (IntOp.addi (IntOp.subi (BitVec.ofNat 32 n) 8#32) (BitVec.ofNat 32 c)) 0#32
      = if 8 ≤ (n : ℕ) + c then 1#1 else 0#1 := by
  decide +kernel

/-- Row `j` of the band of chunk `n` exists. -/
theorem valid_band (n : Fin 128) (j : Fin 576) :
    val_main_v64 (F := Ideal) (ix2 n j) = (if 8 ≤ (n : ℕ) + (j : ℕ) / 64 then 1#1 else 0#1) := by
  pointwise [val_main_v64, val_main_v63, val_main_c_13, val_main_v62, val_main_v61, val_main_v60, val_main_v59, val_main_v56,
    val_main_v55, val_main_c_11, val_main_v54, val_main_v53]
  rw [fdiv_at]
  exact valid_word n ⟨(j : ℕ) / 64, by omega⟩

/-- The score of a query against row `j` of its band. -/
def bandScore (q k : S2x8192x8x64.Idx → EReal) (rb : S8x192.Idx → EReal) (b : Fin 2) (n : Fin 128) (p : Fin 64) (h : Fin 8)
    (j : Fin 576) : EReal :=
  if 8 ≤ (n : ℕ) + (j : ℕ) / 64 then
    (∑ e : Fin 64, q (ix4 b ⟨64 * (n : ℕ) + p, by omega⟩ h e) * kv k b n j h e) * Ideal.ofBits .f32 0x3E000000#32
      + rb (ix2 h ⟨min (575 + (p : ℕ) - j) 191, by omega⟩)
  else ⊥

/-- The banded attention at chunk `n`, place `p`, head `h`, column `e`. -/
def band (q k v : S2x8192x8x64.Idx → EReal) (rb : S8x192.Idx → EReal) (b : Fin 2) (n : Fin 128) (p : Fin 64) (h : Fin 8)
    (e : Fin 64) : EReal :=
  ∑ j : Fin 576, kv v b n j h e *
    Ideal.div (Soft.weight (bandScore q k rb b n p h) j) (∑ j, Soft.weight (bandScore q k rb b n p h) j)

end Cert.AttnRefIdeal.Band
-- ==== Proof.Attn.Equation.lean ====
module

public import proofs.«01_k».proof.Proof.Attn.Block
public import proofs.«01_k».proof.Proof.Attn.Entry
public import proofs.«01_k».proof.Proof.Attn.RefBand

@[expose] public section

set_option maxRecDepth 16384

noncomputable section

/-! # A row of the kernel's block is the reference's row -/

namespace Cert.AttnIdeal.Equation

open Cert.AttnIdeal Cert.AttnIdeal.Gen Cert.AttnIdeal.Head Cert.AttnIdeal.Block Idealize.ShloMosaic Idealize.ShloMosaic.TcCoe Idealize.SL.Sem
open Cert.AttnRefIdeal.Band (kv bandScore band)

theorem eighth : Ideal.ofBits FTy.f32 0x3E000000#32 = ((1 / 8 : ℝ) : EReal) := by
  simp [Ideal.ofBits, Ideal.ieee, -EReal.coe_mul]; norm_num

theorem window_chunk : ∀ s : Fin 768, k0_pay4 (ix2 0 s) = BitVec.ofNat 32 ((s : ℕ) / 64) := by decide +kernel

theorem ok_word : ∀ (a : Fin 16) (c : Fin 12),
    (IntOp.cmpi .sge (IntOp.subi (IntOp.addi (IntOp.addi (IntOp.muli (BitVec.ofNat 32 a) 8#32) 0#32) (BitVec.ofNat 32 c)) 8#32) 0#32
      = if 8 ≤ 8 * (a : ℕ) + c then 1#1 else 0#1)
    ∧ (IntOp.cmpi .sge (IntOp.subi (IntOp.addi (IntOp.addi (IntOp.muli (BitVec.ofNat 32 a) 8#32) 4#32) (BitVec.ofNat 32 c)) 8#32) 0#32
      = if 8 ≤ 8 * (a : ℕ) + 4 + c then 1#1 else 0#1) := by decide +kernel

/-- The kernel's validity bit of key `s` of the window of group `g`: its chunk is not before the first. -/
theorem ok_apply (a : Fin 16) (g : Fin 2) (s : Fin 768) :
    okBits (BitVec.ofNat 32 a) g s = if 8 ≤ 8 * (a : ℕ) + 4 * g + (s : ℕ) / 64 then 1#1 else 0#1 := by
  have hw := ok_word a ⟨(s : ℕ) / 64, by omega⟩
  have hs := window_chunk s
  revert hs
  unfold okBits
  generalize k0_pay4 = x
  intro hs
  have hg : (g : ℕ) = 0 ∨ (g : ℕ) = 1 := by omega
  rcases hg with hg | hg
  · rw [if_pos hg, hg]
    pointwise [k0_pay8]
    rw [hs]
    exact hw.1
  · rw [if_neg (by omega), hg]
    pointwise [k0_pay30]
    rw [hs]
    exact hw.2

/-- With finite queries, keys and biases the score of a key inside the sequence is real. -/
theorem score_real (q k : S2x8192x8x64.Idx → EReal) (rb : S8x192.Idx → EReal)
    (hq : ∀ i, ∃ x : ℝ, q i = x) (hk : ∀ i, ∃ x : ℝ, k i = x) (hrb : ∀ i, ∃ x : ℝ, rb i = x)
    (b : Fin 2) (n : Fin 128) (p : Fin 64) (h : Fin 8) (j : Fin 576) (hv : 8 ≤ (n : ℕ) + (j : ℕ) / 64) :
    ∃ z : ℝ, (∑ e : Fin 64, q (ix4 b ⟨64 * (n : ℕ) + p, by omega⟩ h e) * kv k b n j h e) * Ideal.ofBits FTy.f32 0x3E000000#32
      + rb (ix2 h ⟨min (575 + (p : ℕ) - j) 191, by omega⟩) = (z : EReal) := by
  choose q' hq' using hq
  choose k' hk' using hk
  choose rb' hrb' using hrb
  refine ⟨(∑ e : Fin 64, q' (ix4 b ⟨64 * (n : ℕ) + p, by omega⟩ h e) * k' (ix4 b ⟨64 * (n : ℕ) + j - 512, by omega⟩ h e)) * (1 / 8)
    + rb' (ix2 h ⟨min (575 + (p : ℕ) - j) 191, by omega⟩), ?_⟩
  rw [EReal.coe_add, EReal.coe_mul, ← Soft.coe_sum, hrb', eighth]
  congr 2
  refine Finset.sum_congr rfl fun e _ => ?_
  unfold kv
  rw [if_pos hv, hq', hk', EReal.coe_mul]

theorem scaled_mul (x y c x' y' : EReal) (hx : x = x') (hy : y = y') : x * c * y = x' * y' * c := by
  rw [hx, hy, mul_assoc, mul_comm c, mul_assoc]

/-- A row of `tileAt` over blocks that hold the arguments' rows is the reference's row. -/
theorem tile_eq_band (q k v : S2x8192x8x64.Idx → EReal) (rb : S8x192.Idx → EReal)
    (hq : ∀ i, ∃ x : ℝ, q i = x) (hk : ∀ i, ∃ x : ℝ, k i = x) (hrb : ∀ i, ∃ x : ℝ, rb i = x)
    (x0 x1 x2 x3 x4 : Vec Ideal S1x512x512 .bf16) (b : Fin 2) (a : Fin 16) (g : Fin 2) (r : Fin 256) (h : Fin 8) (e : Fin 64)
    (h0 : ∀ e' : Fin 64, x0 (ix3 0 ⟨256 * (g : ℕ) + r, by omega⟩ (col h e'))
      = HMul.hMul (α := EReal) (β := EReal) (q (ix4 b ⟨512 * (a : ℕ) + 256 * g + r, by omega⟩ h e')) (Ideal.ofBits FTy.f32 0x3E000000#32))
    (hK : ∀ (N : ℕ) (hN : N < 1024) (h8 : 512 ≤ 512 * (a : ℕ) + N) (e' : Fin 64),
      cat x1 x2 N (col h e') = k (ix4 b ⟨512 * (a : ℕ) + N - 512, by omega⟩ h e'))
    (hV : ∀ (N : ℕ) (hN : N < 1024) (h8 : 512 ≤ 512 * (a : ℕ) + N) (e' : Fin 64),
      cat x3 x4 N (col h e') = v (ix4 b ⟨512 * (a : ℕ) + N - 512, by omega⟩ h e')) :
    tileAt (okBits (BitVec.ofNat 32 a)) x0 x1 x2 x3 x4 (Entry.tile rb) g r h e
      = band q k v rb b ⟨8 * (a : ℕ) + 4 * g + (r : ℕ) / 64, by omega⟩ ⟨(r : ℕ) % 64, by omega⟩ h e := by
  unfold tileAt band
  refine Soft.average_embed (fun j : Fin 576 => (⟨64 * ((r : ℕ) / 64) + j, by omega⟩ : Fin 768)) ?_ _ _ _ _ ?_ ?_ ?_ ?_ ?_
  · intro j j' hj
    have := congrArg Fin.val hj
    simp only at this
    exact Fin.ext (by omega)
  · intro j
    unfold score bandScore
    rw [ok_apply]
    have hdiv : (64 * ((r : ℕ) / 64) + (j : ℕ)) / 64 = (r : ℕ) / 64 + (j : ℕ) / 64 := by omega
    by_cases hv : 8 ≤ 8 * (a : ℕ) + 4 * g + (r : ℕ) / 64 + (j : ℕ) / 64
    · rw [if_pos (show (if 8 ≤ 8 * (a : ℕ) + 4 * g + (64 * ((r : ℕ) / 64) + (j : ℕ)) / 64 then 1#1 else 0#1) = 1#1 by
        rw [if_pos (by omega)]), if_pos (by simp only; omega)]
      beta_reduce
      rw [Entry.tile_apply, if_pos (by simp only; omega)]
      refine congrArg₂ (fun x y : EReal => x + y) ?_ ?_
      · rw [eighth, Soft.sum_mul_right _ _ _ (by norm_num)]
        refine Finset.sum_congr rfl fun e' _ => ?_
        rw [h0, hK _ (by simp only; omega) (by simp only; omega), ← eighth]
        unfold kv
        rw [if_pos (by simp only; omega)]
        exact scaled_mul _ _ _ _ _ (congrArg (fun t => q (ix4 b t h e')) (Fin.ext (by simp only; omega)))
          (congrArg (fun t => k (ix4 b t h e')) (Fin.ext (by simp only; omega)))
      · exact congrArg (fun t => rb (ix2 h t)) (Fin.ext (by simp only; omega))
    · rw [if_neg (show ¬ (if 8 ≤ 8 * (a : ℕ) + 4 * g + (64 * ((r : ℕ) / 64) + (j : ℕ)) / 64 then 1#1 else 0#1) = 1#1 by
        rw [if_neg (by omega)]; decide), if_neg (by simp only; omega)]
  · intro j hj
    have hv : 8 ≤ 8 * (a : ℕ) + 4 * g + (r : ℕ) / 64 + (j : ℕ) / 64 := by
      by_contra hv
      exact hj (if_neg hv)
    rw [hV _ (by simp only; omega) (by simp only; omega)]
    unfold kv
    rw [if_pos (by simp only; omega)]
    exact congrArg (fun t => v (ix4 b t h e)) (Fin.ext (by simp only; omega))
  · intro s hs
    unfold score
    beta_reduce
    have hnb : ¬ ((r : ℕ) / 64 ≤ (s : ℕ) / 64 ∧ (s : ℕ) / 64 ≤ (r : ℕ) / 64 + 8) := by
      intro hb
      exact hs ⟨(s : ℕ) - 64 * ((r : ℕ) / 64), by omega⟩ (Fin.ext (by simp only; omega))
    rw [Entry.tile_apply, if_neg hnb]
    split
    · exact EReal.add_bot _
    · rfl
  · intro j
    unfold bandScore
    split
    · rename_i hv
      obtain ⟨z, hz⟩ := score_real q k rb hq hk hrb b _ ⟨(r : ℕ) % 64, by omega⟩ h j hv
      rw [hz]; exact EReal.coe_ne_top z
    · exact bot_ne_top
  · refine ⟨⟨512, by omega⟩, ?_⟩
    unfold bandScore
    rw [if_pos (by simp only; omega)]
    obtain ⟨z, hz⟩ := score_real q k rb hq hk hrb b ⟨8 * (a : ℕ) + 4 * g + (r : ℕ) / 64, by omega⟩ ⟨(r : ℕ) % 64, by omega⟩ h ⟨512, by omega⟩ (by simp only; omega)
    rw [hz]; exact EReal.coe_ne_bot z

end Cert.AttnIdeal.Equation
-- ==== Proof.Attn.Final.lean ====
module

public import proofs.«01_k».proof.Proof.Attn.Equation

@[expose] public section

set_option maxRecDepth 16384

noncomputable section

/-! # The array the attention kernel leaves -/

namespace Cert.AttnIdeal.Final

open Cert.AttnIdeal Cert.AttnIdeal.Gen Cert.AttnIdeal.Block Idealize.ShloMosaic Idealize.ShloMosaic.TcCoe Idealize.SL.Sem
open Idealize.ShloMosaic.Pipeline (Dat)

variable (m : (ℓ : Loc nD τ sig) → Buf (Elt Ideal) ℓ)

/-- Which block of its array each window holds at each point of the grid. -/
theorem idx : ∀ t : Fin cfg0.N, win0_0.index t = ![t.val / 16, t.val % 16, 0] ∧ win0_1.index t = ![t.val / 16, t.val % 16 - 1, 0]
    ∧ win0_2.index t = ![t.val / 16, t.val % 16, 0] ∧ win0_3.index t = ![t.val / 16, t.val % 16 - 1, 0]
    ∧ win0_4.index t = ![t.val / 16, t.val % 16, 0] ∧ win0_5.index t = ![0, 0, 0]
    ∧ win0_6.index t = ![t.val / 16, t.val % 16, 0] ∧ (grid0.coords t 1).val = t.val % 16 :=
  (by decide +kernel : ∀ t : Fin grid0.N, _)

theorem N_le (t : Fin cfg0.N) : t.val < 32 := t.isLt

theorem q_blk (c : Dev nD) (t : Fin cfg0.N) (r d : Fin 512) : iblk m c 0 t (ix3 0 r d)
    = V m c main_v5 (ix3 ⟨t.val / 16, by have := N_le t; omega⟩ ⟨512 * (t.val % 16) + r, by omega⟩ d) := by
  blk_point [iblk, idx t]

theorem kp_blk (c : Dev nD) (t : Fin cfg0.N) (r d : Fin 512) : iblk m c 1 t (ix3 0 r d)
    = V m c main_v6 (ix3 ⟨t.val / 16, by have := N_le t; omega⟩ ⟨512 * (t.val % 16 - 1) + r, by omega⟩ d) := by
  blk_point [iblk, idx t]

theorem kc_blk (c : Dev nD) (t : Fin cfg0.N) (r d : Fin 512) : iblk m c 2 t (ix3 0 r d)
    = V m c main_v6 (ix3 ⟨t.val / 16, by have := N_le t; omega⟩ ⟨512 * (t.val % 16) + r, by omega⟩ d) := by
  blk_point [iblk, idx t]

theorem vp_blk (c : Dev nD) (t : Fin cfg0.N) (r d : Fin 512) : iblk m c 3 t (ix3 0 r d)
    = V m c main_v7 (ix3 ⟨t.val / 16, by have := N_le t; omega⟩ ⟨512 * (t.val % 16 - 1) + r, by omega⟩ d) := by
  blk_point [iblk, idx t]

theorem vc_blk (c : Dev nD) (t : Fin cfg0.N) (r d : Fin 512) : iblk m c 4 t (ix3 0 r d)
    = V m c main_v7 (ix3 ⟨t.val / 16, by have := N_le t; omega⟩ ⟨512 * (t.val % 16) + r, by omega⟩ d) := by
  blk_point [iblk, idx t]

theorem bias_blk (c : Dev nD) (t : Fin cfg0.N) : iblk m c 5 t = V m c main_v35 := by
  funext y
  blk_point [iblk, idx t]

end Cert.AttnIdeal.Final
-- ==== Proof.Attn.RefOut.lean ====
module

public import proofs.«01_k».proof.Proof.Attn.RefBand

@[expose] public section

set_option maxRecDepth 16384

noncomputable section

/-! # The reference's attention, read at an index -/

namespace Cert.AttnRefIdeal.Band

open Cert.AttnRefIdeal Cert.AttnRefIdeal.Read Idealize.ShloMosaic Idealize.ShloMosaic.TcCoe Idealize.SL.Sem

theorem neg_inf : Ideal.ofBits FTy.f32 4286578688#32 = ⊥ := by simp [Ideal.ofBits, Ideal.ieee]

theorem dot_band (q k : S2x8192x8x64.Idx → EReal) (b : Fin 2) (n : Fin 128) (p : Fin 64) (h : Fin 8) (j : Fin 576) :
    val_main_v28 (F := Ideal) q k (ix5 b h n p j)
      = ∑ e : Fin 64, q (ix4 b ⟨64 * (n : ℕ) + p, by omega⟩ h e) * val_main_v19 (F := Ideal) k (ix5 b n j h e) := by
  unfold val_main_v28
  generalize val_main_v19 (F := Ideal) k = z
  pointwise [val_main_v0]
  refine Finset.sum_congr rfl fun e _ => congrArg (· * z (ix5 b n j h e)) (congrArg (fun r => q (ix4 b r h e)) (Fin.ext ?_))
  show (n : ℕ) * 64 + p = 64 * (n : ℕ) + p
  omega

theorem score_band (q k : S2x8192x8x64.Idx → EReal) (rb : S8x192.Idx → EReal) (b : Fin 2) (n : Fin 128) (p : Fin 64) (h : Fin 8)
    (j : Fin 576) : val_main_v66 (F := Ideal) q k rb (ix5 b h n p j) = bandScore q k rb b n p h j := by
  have hdot := dot_band q k b n p h j
  have hbias := bias_band rb h p j
  have hval := valid_band n j
  unfold val_main_v66 val_main_call4_v1 val_main_v65 val_main_v52 val_main_v51 val_main_v50 val_main_v30
  revert hdot hbias hval
  generalize val_main_v28 (F := Ideal) q k = z
  generalize val_main_v49 (F := Ideal) rb = y
  generalize val_main_v64 (F := Ideal) = w
  intro hdot hbias hval
  pointwise [val_main_call4_v2, val_main_call4_v0, val_main_cst_14, val_main_v29, val_main_cst]
  rw [hdot, hbias, hval]
  unfold bandScore
  by_cases hv : 8 ≤ (n : ℕ) + (j : ℕ) / 64
  · rw [if_pos hv, if_pos hv]
    simp only [k_band]
    rfl
  · rw [if_neg hv, if_neg hv]
    exact neg_inf

theorem out_dot (q k v : S2x8192x8x64.Idx → EReal) (rb : S8x192.Idx → EReal) (b : Fin 2) (n : Fin 128) (p : Fin 64)
    (h : Fin 8) (e : Fin 64) :
    val_main_v78 (F := Ideal) q k v rb (ix5 b n h e p)
      = ∑ j : Fin 576, val_main_v27 (F := Ideal) v (ix5 b n j h e) * val_main_v77 (F := Ideal) q k rb (ix5 b h n p j) := by
  unfold val_main_v78
  generalize val_main_v27 (F := Ideal) v = y
  generalize val_main_v77 (F := Ideal) q k rb = z
  pointwise

/-- The host's maximum over the band is the fold of the maximum from `⊥`. -/
theorem max_band (hr : S2x8x128x64x576.ReducesTo [4] S2x8x128x64) (hu : 0 < S_.numel) (y : FVec Ideal S2x8x128x64x576 .f32) (b : Fin 2) (n : Fin 128) (p : Fin 64) (h : Fin 8) :
    Host.reduce FloatOps.maximumf y (val_main_cst_15 (F := Ideal)) hr hu (ix4 b h n p)
      = Soft.top (fun j => y (ix5 b h n p j)) := by
  unfold Soft.top
  pointwise [val_main_cst_15]
  rw [neg_inf]

theorem v67_band (q k : S2x8192x8x64.Idx → EReal) (rb : S8x192.Idx → EReal) (b : Fin 2) (n : Fin 128) (p : Fin 64) (h : Fin 8) :
    val_main_v67 (F := Ideal) q k rb (ix4 b h n p) = Soft.top (fun j => val_main_v66 (F := Ideal) q k rb (ix5 b h n p j)) := by
  unfold val_main_v67
  generalize val_main_v66 (F := Ideal) q k rb = y
  exact max_band _ _ y b n p h

theorem v71_band (q k : S2x8192x8x64.Idx → EReal) (rb : S8x192.Idx → EReal) (b : Fin 2) (n : Fin 128) (p : Fin 64) (h : Fin 8)
    (j : Fin 576) : val_main_v71 (F := Ideal) q k rb (ix5 b h n p j) = val_main_v67 (F := Ideal) q k rb (ix4 b h n p) := by
  rw [val_main_v71_apply, val_main_v70_apply, val_main_v69_apply, val_main_v68_apply, val_main_cst_16_apply]
  have hi : idx_main_v70 (idx_main_v71 (ix5 b h n p j)) = ix4 b h n p := by
    funext a
    match a with
    | ⟨0, _⟩ => rfl
    | ⟨1, _⟩ => rfl
    | ⟨2, _⟩ => rfl
    | ⟨3, _⟩ => rfl
  rw [hi]
  generalize val_main_v67 (F := Ideal) q k rb (ix4 b h n p) = m
  exact (congrArg (fun x : EReal => max x m) neg_inf).trans (max_eq_right bot_le)

theorem weight_band (q k : S2x8192x8x64.Idx → EReal) (rb : S8x192.Idx → EReal) (b : Fin 2) (n : Fin 128) (p : Fin 64) (h : Fin 8)
    (j : Fin 576) : val_main_v73 (F := Ideal) q k rb (ix5 b h n p j)
      = Soft.weight (fun j => val_main_v66 (F := Ideal) q k rb (ix5 b h n p j)) j := by
  have hm := (v71_band q k rb b n p h j).trans (v67_band q k rb b n p h)
  rw [val_main_v73_apply, val_main_v72_apply, hm]
  generalize val_main_v66 (F := Ideal) q k rb = y
  unfold Soft.weight
  generalize Soft.top (fun j => y (ix5 b h n p j)) = m
  rfl

theorem quot_band (q k : S2x8192x8x64.Idx → EReal) (rb : S8x192.Idx → EReal) (b : Fin 2) (n : Fin 128) (p : Fin 64) (h : Fin 8)
    (j : Fin 576) : val_main_v77 (F := Ideal) q k rb (ix5 b h n p j)
      = Ideal.div (val_main_v73 (F := Ideal) q k rb (ix5 b h n p j)) (∑ j, val_main_v73 (F := Ideal) q k rb (ix5 b h n p j)) := by
  unfold val_main_v77 val_main_v76 val_main_v75 val_main_v74
  generalize val_main_v73 (F := Ideal) q k rb = y
  pointwise [val_main_cst_17]

theorem ref_band (q k v : S2x8192x8x64.Idx → EReal) (rb : S8x192.Idx → EReal) (b : Fin 2) (n : Fin 128) (p : Fin 64) (h : Fin 8)
    (e : Fin 64) (t : Fin 8192) (d : Fin 512) (ht : (t : ℕ) = 64 * n + p) (hd : (d : ℕ) = 64 * h + e) :
    val_main_v80 (F := Ideal) q k v rb (ix3 b t d) = band q k v rb b n p h e := by
  rw [val_main_v80_apply, val_main_v79_apply]
  have hi : idx_main_v79 (idx_main_v80 (ix3 b t d)) = ix5 b n h e p := by
    funext a
    match a with
    | ⟨0, _⟩ => exact Fin.ext (show (((b : ℕ) * 8192 + t) * 512 + d) / 4194304 = b by omega)
    | ⟨1, _⟩ => exact Fin.ext (show (((b : ℕ) * 8192 + t) * 512 + d) / 32768 % 128 = n by omega)
    | ⟨2, _⟩ => exact Fin.ext (show (((b : ℕ) * 8192 + t) * 512 + d) / 64 % 8 = h by omega)
    | ⟨3, _⟩ => exact Fin.ext (show (((b : ℕ) * 8192 + t) * 512 + d) % 64 = e by omega)
    | ⟨4, _⟩ => exact Fin.ext (show (((b : ℕ) * 8192 + t) * 512 + d) / 512 % 64 = p by omega)
  rw [hi, out_dot]
  refine Finset.sum_congr rfl fun j _ => ?_
  rw [v_band, quot_band]
  simp only [weight_band, score_band]

end Cert.AttnRefIdeal.Band
-- ==== Proof.Attn.Value.lean ====
module

public import proofs.«01_k».proof.Proof.Attn.Final
public import proofs.«01_k».proof.Proof.Attn.RefOut

@[expose] public section

set_option maxRecDepth 16384

noncomputable section

/-! # The attention kernel's result is the reference's -/

namespace Cert.AttnIdeal.Final

open Cert.AttnIdeal Cert.AttnIdeal.Gen Cert.AttnIdeal.Block Idealize.ShloMosaic Idealize.ShloMosaic.TcCoe Idealize.SL.Sem
open Cert.AttnRefIdeal.Band (band)

variable (m : (ℓ : Loc nD τ sig) → Buf (Elt Ideal) ℓ)

/-- Two consecutive blocks of rows, at a row inside the sequence, are the argument's row. -/
theorem cat_eq (x y : Vec Ideal S1x512x512 .bf16) (f : Fin 8192 → Fin 512 → EReal) (a : Fin 16)
    (hx : ∀ r d : Fin 512, x (ix3 0 r d) = f ⟨512 * ((a : ℕ) - 1) + r, by omega⟩ d)
    (hy : ∀ r d : Fin 512, y (ix3 0 r d) = f ⟨512 * (a : ℕ) + r, by omega⟩ d)
    (N : ℕ) (hN : N < 1024) (h8 : 512 ≤ 512 * (a : ℕ) + N) (d : Fin 512) :
    cat x y N d = f ⟨512 * (a : ℕ) + N - 512, by omega⟩ d := by
  unfold cat
  by_cases h1 : N < 512
  · rw [dif_pos h1, hx]
    exact congrArg (fun t => f t d) (Fin.ext (by simp only; omega))
  · rw [dif_neg h1, dif_pos (show N - 512 < 512 by omega), hy]
    exact congrArg (fun t => f t d) (Fin.ext (by simp only; omega))

/-- What a grid point's body leaves at an index of its block. -/
theorem out_band (c : Dev nD) (hq : ∀ i, ∃ x : ℝ, m (c.tc.loc main_arg0) i = (x : EReal))
    (hk : ∀ i, ∃ x : ℝ, m (c.tc.loc main_arg1) i = (x : EReal)) (hrb : ∀ i, ∃ x : ℝ, m (c.tc.loc main_arg3) i = (x : EReal))
    (t : Fin cfg0.N) (y : S1x512x512.Idx) (g : Fin 2) (r : Fin 256) (h : Fin 8) (e : Fin 64)
    (hy1 : (y 1).val = 256 * (g : ℕ) + r) (hy2 : (y 2).val = 64 * (h : ℕ) + e) :
    out0_6 (F := Ideal) (grid0.coords t) (iblk m c 0 t) (iblk m c 1 t) (iblk m c 2 t) (iblk m c 3 t) (iblk m c 4 t) (iblk m c 5 t) y
      = band (m (c.tc.loc main_arg0)) (m (c.tc.loc main_arg1)) (m (c.tc.loc main_arg2)) (m (c.tc.loc main_arg3))
        ⟨t.val / 16, by have := N_le t; omega⟩ ⟨8 * (t.val % 16) + 4 * (g : ℕ) + (r : ℕ) / 64, by omega⟩ ⟨(r : ℕ) % 64, by omega⟩ h e := by
  rw [out_apply (grid0.coords t) _ _ _ _ _ _ y g r h e hy1 hy2, (idx t).2.2.2.2.2.2.2, bias_blk, Entry.bias_entry]
  have hb : t.val / 16 < 2 := by have := N_le t; omega
  refine Equation.tile_eq_band _ _ _ _ hq hk hrb _ _ _ _ _ ⟨t.val / 16, hb⟩ ⟨t.val % 16, by omega⟩ g r h e ?_ ?_ ?_
  · intro e'
    rw [q_blk]
    refine (Entry.q_at m c _ _ h e' (col h e') rfl).trans ?_
    exact congrArg (fun u => HMul.hMul (α := EReal) (β := EReal) (m (c.tc.loc main_arg0) (ix4 ⟨t.val / 16, hb⟩ u h e')) (Ideal.ofBits FTy.f32 0x3E000000#32)) (Fin.ext (by simp only; omega))
  · intro N hN h8 e'
    refine (cat_eq _ _ (fun u d => V m c main_v6 (ix3 ⟨t.val / 16, hb⟩ u d)) ⟨t.val % 16, by omega⟩ (kp_blk m c t) (kc_blk m c t) N hN h8 _).trans ?_
    exact Entry.k_at m c _ _ h e' (col h e') rfl
  · intro N hN h8 e'
    refine (cat_eq _ _ (fun u d => V m c main_v7 (ix3 ⟨t.val / 16, hb⟩ u d)) ⟨t.val % 16, by omega⟩ (vp_blk m c t) (vc_blk m c t) N hN h8 _).trans ?_
    exact Entry.v_at m c _ _ h e' (col h e') rfl

theorem out_emb (t : Fin cfg0.N) (y : S1x512x512.Idx) : (win0_6.blk t).view.emb y
    = ix3 (⟨t.val / 16, by have := N_le t; omega⟩ : Fin 2)
      (⟨512 * (t.val % 16) + (y 1).val, by have h : (y 1).val < 512 := (y 1).isLt; omega⟩ : Fin 8192)
      (⟨(y 2).val, (y 2).isLt⟩ : Fin 512) := by
  have hi := (idx t).2.2.2.2.2.2.1
  have h0 : (y 0).val < 1 := (y 0).isLt
  blk_ext [hi]

/-- The array after the run: every row of every head is the reference's. -/
theorem final (c : Dev nD) (hq : ∀ i, ∃ x : ℝ, m (c.tc.loc main_arg0) i = (x : EReal))
    (hk : ∀ i, ∃ x : ℝ, m (c.tc.loc main_arg1) i = (x : EReal)) (hrb : ∀ i, ∃ x : ℝ, m (c.tc.loc main_arg3) i = (x : EReal)) :
    (dats m 0 c).arrAt 6 (cfgs 0).N = fun i : S2x8192x512.Idx =>
      Cert.AttnRefIdeal.Read.val_main_v80 (F := Ideal) (m (c.tc.loc main_arg0)) (m (c.tc.loc main_arg1)) (m (c.tc.loc main_arg2)) (m (c.tc.loc main_arg3)) i := by
  refine (dats m 0 c).arrAt_eq_of_covers 6 _ (by decide +kernel) fun t _ y => ?_
  blk_simp
  rw [after0_6]
  have ht := N_le t
  have h1 : (y 1).val < 512 := (y 1).isLt
  have h2 : (y 2).val < 512 := (y 2).isLt
  rw [out_band m c hq hk hrb t y ⟨(y 1).val / 256, by omega⟩ ⟨(y 1).val % 256, by omega⟩ ⟨(y 2).val / 64, by omega⟩
    ⟨(y 2).val % 64, by omega⟩ (by simp only; omega) (by simp only; omega)]
  rw [out_emb t y]
  exact (Cert.AttnRefIdeal.Band.ref_band _ _ _ _ _ _ _ _ _ _ _ (by simp only; omega) (by simp only; omega)).symm

end Cert.AttnIdeal.Final
-- ==== Proof.Attn.Claims.lean ====
module

public import proofs.«01_k».proof.Defs
public import proofs.«01_k».proof.Proof.Gen.Pre_finite_qk
public import proofs.«01_k».proof.Proof.Gen.AttnIdeal.Value
public import proofs.«01_k».proof.Proof.Gen.AttnRefIdeal.Run
public import proofs.«01_k».proof.Proof.Finite
public import proofs.«01_k».proof.Proof.Attn.Value

@[expose] public section

noncomputable section

/-! # The claims about the attention -/

namespace Cert.Proof

open Idealize.ShloMosaic Idealize.SL.Sem

/-- The reference runs and leaves its arguments. -/
theorem attn_ref_frame : quiescent_AttnRefIdeal := by
  intro m ρ _
  exact (θ_run Cert.AttnRefIdeal.defs _ _).mono
    (fun r h => ⟨fun c => (h c).2, sem_eq_zero_of_no_sems (by decide) r.2⟩)
    (Cert.AttnRefIdeal.Value.run m ρ)

/-- The same under the precondition. -/
theorem attn_ref_frame_pre : quiescent_AttnRefIdeal_pre_finite_qk :=
  fun m ρ _ => attn_ref_frame m ρ trivial

/-- The kernel's array is the reference's, for finite queries, keys and biases. -/
theorem attn_algebraic : algebraic_AttnIdeal_AttnRefIdeal_pre_finite_qk := by
  pair_intro
  · run_from Cert.AttnIdeal.Value.run_blocks m g
  · run_from Cert.AttnRefIdeal.Value.run m' g'
    refine (Cert.AttnRefIdeal.Read.val_main_v80_eq m' c).trans ?_
    rw [(hagree c).1, (hagree c).2.1, (hagree c).2.2.1, (hagree c).2.2.2]
    exact (Cert.AttnIdeal.Final.final m c
      (fun i => Cert.Finite.real_of_bit _ (congrFun (hpre c).1 i))
      (fun i => Cert.Finite.real_of_bit _ (congrFun (hpre c).2.1 i))
      (fun i => Cert.Finite.real_of_bit _ (congrFun (hpre c).2.2 i))).symm

end Cert.Proof
-- ==== Proof.Rows.lean ====
module

public import proofs.«01_k».proof.Proof.Soft
public import Idealize.ShloMosaic.Lib.Pointwise
public import Idealize.ShloMosaic.Lib.Claim

@[expose] public section

noncomputable section

/-! # Rows of the block: norms, gates, products and the memory attention of one token -/

namespace Cert.Rows

open Idealize.ShloMosaic

/-- A row over its root mean square, times the gains; `N` is the word of the row's length. -/
def rms {n : ℕ} (N : BitVec 32) (v g : Fin n → EReal) (j : Fin n) : EReal :=
  v j * Ideal.rsqrt (Ideal.div (∑ k, v k * v k) (Ideal.ofBits .f32 N) + Ideal.ofBits .f32 0x358637BD#32) * g j

/-- A row times a matrix. -/
def prod {n p : ℕ} (v : Fin n → EReal) (w : Fin n → Fin p → EReal) (j : Fin p) : EReal := ∑ k, v k * w k j

/-- The exact GELU. -/
def gelu (y : EReal) : EReal :=
  Ideal.ofBits .f32 0x3F000000#32 * y * (Ideal.ofBits .f32 0x3F800000#32 + Ideal.erf (y * Ideal.ofBits .f32 0x3F3504F3#32))

/-- The gated unit: the GELU of the row times the logistic of its product. -/
def gated {n : ℕ} (y : Fin n → EReal) (w : Fin n → Fin n → EReal) (b : Fin n → EReal) (j : Fin n) : EReal :=
  gelu (y j) * Ideal.logistic (prod (fun k => gelu (y k)) w j + b j)

/-- Column `e` of head `h` of four heads of 256. -/
def col (h : Fin 4) (e : Fin 256) : Fin 1024 := ⟨256 * (h : ℕ) + e, by omega⟩

/-- The residual row after the mix of the two groups: the two normed rows through the two halves of the output projection. -/
def mixed (x : Fin 1024 → EReal) (a y : Fin 512 → EReal) (wg : Fin 512 → Fin 512 → EReal) (bg ag sg : Fin 512 → EReal)
    (wa ws : Fin 512 → Fin 1024 → EReal) (j : Fin 1024) : EReal :=
  x j + prod (rms 0x44000000#32 a ag) wa j + prod (rms 0x44000000#32 (gated y wg bg) sg) ws j

/-- The softmax average of values with one division at the end. -/
def average {n : ℕ} (S V : Fin n → EReal) : EReal :=
  Ideal.div (∑ s, Soft.weight S s * V s) (∑ s, Soft.weight S s)

/-- The scores of one head of one token: the normed and scaled query times each key. -/
def score (q g : Fin 256 → EReal) (k : Fin 256 → Fin 256 → EReal) (s : Fin 256) : EReal :=
  ∑ e, rms 0x43800000#32 q g e * Ideal.ofBits .f32 0x3D800000#32 * k s e

/-- The head of a column. -/
def head (n : Fin 1024) : Fin 4 := ⟨(n : ℕ) / 256, by omega⟩

theorem head_col (h : Fin 4) (e : Fin 256) : head (col h e) = h := Fin.ext (by simp only [head, col]; omega)

/-- One token through the memory attention, its residual added. -/
def token (h g : Fin 1024 → EReal) (wq : Fin 1024 → Fin 1024 → EReal) (qg : Fin 256 → EReal) (K V : Fin 256 → Fin 1024 → EReal)
    (wo : Fin 1024 → Fin 1024 → EReal) (j : Fin 1024) : EReal :=
  h j + prod (fun n => average (score (fun e => prod (rms 0x44800000#32 h g) wq (col (head n) e)) qg (fun s e => K s (col (head n) e)))
    (fun s => V s n)) wo j

theorem mixed_congr {x x' : Fin 1024 → EReal} {a a' y y' : Fin 512 → EReal} {wg wg' : Fin 512 → Fin 512 → EReal}
    {bg bg' ag ag' sg sg' : Fin 512 → EReal} {wa wa' ws ws' : Fin 512 → Fin 1024 → EReal} (hx : x = x') (ha : a = a') (hy : y = y')
    (hwg : wg = wg') (hbg : bg = bg') (hag : ag = ag') (hsg : sg = sg') (hwa : wa = wa') (hws : ws = ws') (j : Fin 1024) :
    mixed x a y wg bg ag sg wa ws j = mixed x' a' y' wg' bg' ag' sg' wa' ws' j := by
  subst hx ha hy hwg hbg hag hsg hwa hws
  rfl

theorem token_congr {h h' g g' : Fin 1024 → EReal} {wq wq' : Fin 1024 → Fin 1024 → EReal} {qg qg' : Fin 256 → EReal}
    {K K' V V' : Fin 256 → Fin 1024 → EReal} {wo wo' : Fin 1024 → Fin 1024 → EReal} (hh : h = h') (hg : g = g') (hq : wq = wq')
    (hqg : qg = qg') (hK : K = K') (hV : V = V') (ho : wo = wo') (j : Fin 1024) :
    token h g wq qg K V wo j = token h' g' wq' qg' K' V' wo' j := by
  subst hh hg hq hqg hK hV ho
  rfl

/-- A root mean square with a positive length is never infinite, whatever the row. -/
theorem rms_real {n : ℕ} (N : BitVec 32) (N' : ℝ) (hN : Ideal.ofBits .f32 N = (N' : EReal)) (hpos : 0 < N') (v g : Fin n → EReal) (j : Fin n)
    (hg : ∃ r : ℝ, g j = (r : EReal)) : ∃ r : ℝ, rms N v g j = (r : EReal) := by
  obtain ⟨gr, hg⟩ := hg
  obtain ⟨e, he, hepos⟩ : ∃ e : ℝ, Ideal.ofBits FTy.f32 0x358637BD#32 = (e : EReal) ∧ 0 < e := by
    refine ⟨_, by simp [Ideal.ofBits, Ideal.ieee]; rfl, ?_⟩
    norm_num
  by_cases hall : ∀ k, ∃ r : ℝ, v k = (r : EReal)
  · choose r hr using hall
    have hs : ∑ k, v k * v k = ((∑ k, r k * r k : ℝ) : EReal) := by
      rw [← Soft.coe_sum]
      exact Finset.sum_congr rfl fun k _ => by rw [hr, EReal.coe_mul]
    have hnn : 0 ≤ ∑ k, r k * r k := Finset.sum_nonneg fun k _ => mul_self_nonneg _
    have hp : 0 < (∑ k, r k * r k) * (1 / N') + e := by positivity
    unfold rms
    rw [hs, hN, he, Ideal.div_coe hpos.ne', ← EReal.coe_mul, ← EReal.coe_add, Ideal.rsqrt_coe, if_neg hp.le.not_gt, if_neg hp.ne', hg, hr,
      ← EReal.coe_mul, ← EReal.coe_mul]
    exact ⟨_, rfl⟩
  · push Not at hall
    obtain ⟨k, hk⟩ := hall
    have hkk : v k * v k = ⊤ := by
      generalize v k = x at hk
      induction x using EReal.rec with
      | bot => rfl
      | coe r => exact absurd rfl (hk r)
      | top => rfl
    have hnn : ∀ x : EReal, 0 ≤ x * x := fun x => by
      induction x using EReal.rec with
      | bot => exact le_top
      | coe r => rw [← EReal.coe_mul]; exact_mod_cast mul_self_nonneg r
      | top => exact le_top
    have hs : ∑ k, v k * v k = ⊤ := top_le_iff.mp (hkk ▸ Finset.single_le_sum (f := fun k => v k * v k) (fun i _ => hnn (v i)) (Finset.mem_univ k))
    unfold rms
    rw [hs, hN, he, Ideal.div_coe hpos.ne', EReal.top_mul_coe_of_pos (by positivity), EReal.top_add_coe, Ideal.rsqrt_top, mul_zero, zero_mul]
    exact ⟨0, rfl⟩

/-- A product of reals is real. -/
theorem prod_real {n p : ℕ} (v : Fin n → EReal) (w : Fin n → Fin p → EReal) (j : Fin p) (hv : ∀ k, ∃ r : ℝ, v k = (r : EReal))
    (hw : ∀ k, ∃ r : ℝ, w k j = (r : EReal)) : ∃ r : ℝ, prod v w j = (r : EReal) := by
  choose a ha using hv
  choose b hb using hw
  refine ⟨∑ k, a k * b k, ?_⟩
  rw [← Soft.coe_sum]
  exact Finset.sum_congr rfl fun k _ => by rw [ha, hb, EReal.coe_mul]

/-- A product over 1024 is the product over the first 512 and the product over the last 512. -/
theorem prod_halves {p : ℕ} (v : Fin 1024 → EReal) (w : Fin 1024 → Fin p → EReal) (j : Fin p) :
    prod v w j = prod (fun k : Fin 512 => v ⟨k, by omega⟩) (fun k => w ⟨k, by omega⟩) j
      + prod (fun k : Fin 512 => v ⟨512 + k, by omega⟩) (fun k => w ⟨512 + k, by omega⟩) j :=
  Fin.sum_univ_add (a := 512) (b := 512) (fun k => v k * w k j)

end Cert.Rows
-- ==== Proof.InProj.Head.lean ====
module

public import proofs.«01_k».proof.Proof.Rows

@[expose] public section

noncomputable section

/-! # The heads' norms: one product with a block matrix of ones for eight sums of 64 squares -/

namespace Cert.Rows

open Idealize.ShloMosaic

/-- The norms of eight heads of 64 as one row: the sums of squares are a product with a matrix `S`, once of the squares
and once of what is left of them. -/
def segnorm (z : Fin 512 → EReal) (S : Fin 512 → Fin 512 → EReal) (G : Fin 512 → EReal) (j : Fin 512) : EReal :=
  z j * Ideal.rsqrt ((prod (fun k => z k * z k) S j + prod (fun k => z k * z k - z k * z k) S j) * Ideal.ofBits .f32 0x3C800000#32
    + Ideal.ofBits .f32 0x358637BD#32) * G j

/-- Lane `e` of head `h` of eight heads of 64. -/
def lane (h : Fin 8) (e : Fin 64) : Fin 512 := ⟨(h : ℕ) * 64 + e, by omega⟩

/-- The head of a lane. -/
def group (j : Fin 512) : Fin 8 := ⟨(j : ℕ) / 64, by omega⟩

/-- The place of a lane in its head. -/
def place (j : Fin 512) : Fin 64 := ⟨(j : ℕ) % 64, by omega⟩

theorem lane_group (j : Fin 512) : lane (group j) (place j) = j := Fin.ext (by simp only [lane, group, place]; omega)

/-- The norm of the head a lane lies in, at the lane. -/
def headnorm (z : Fin 512 → EReal) (g : Fin 64 → EReal) (j : Fin 512) : EReal :=
  rms 0x42800000#32 (fun e => z (lane (group j) e)) g (place j)

/-- A sum over 512 lanes is a sum over the heads of sums over their lanes. -/
theorem sum_lanes (f : Fin 512 → EReal) : ∑ k, f k = ∑ h : Fin 8, ∑ e : Fin 64, f (lane h e) := by
  rw [← Fintype.sum_prod_type' (f := fun h e => f (lane h e))]
  refine Fintype.sum_equiv ⟨fun k => (group k, place k), fun p => lane p.1 p.2, fun k => lane_group k, fun p => ?_⟩ _ _ (fun k => ?_)
  · refine Prod.ext (Fin.ext ?_) (Fin.ext ?_)
    · simp only [group, lane]; omega
    · simp only [place, lane]; omega
  · exact congrArg f (lane_group k).symm

/-- A product with the block matrix of ones is the sum over the lanes of the column's head. -/
theorem prod_block (v : Fin 512 → EReal) (S : Fin 512 → Fin 512 → EReal)
    (hS : ∀ k j, S k j = if (k : ℕ) / 64 = (j : ℕ) / 64 then 1 else 0) (j : Fin 512) :
    prod v S j = ∑ e : Fin 64, v (lane (group j) e) := by
  unfold prod
  rw [sum_lanes, Finset.sum_eq_single (group j)]
  · refine Finset.sum_congr rfl fun e _ => ?_
    rw [hS, if_pos (by simp only [lane, group]; omega), mul_one]
  · intro h _ hne
    refine Finset.sum_eq_zero fun e _ => ?_
    rw [hS, if_neg (fun hc => hne (Fin.ext (by simp only [lane, group] at hc ⊢; omega))), mul_zero]
  · exact fun h => absurd (Finset.mem_univ _) h

/-- For a real row the one product gives the norms of the eight heads. -/
theorem segnorm_eq (z : Fin 512 → EReal) (S : Fin 512 → Fin 512 → EReal) (G : Fin 512 → EReal) (g : Fin 64 → EReal)
    (hz : ∀ k, ∃ r : ℝ, z k = (r : EReal)) (hS : ∀ k j, S k j = if (k : ℕ) / 64 = (j : ℕ) / 64 then 1 else 0)
    (hG : ∀ j, G j = g (place j)) (j : Fin 512) : segnorm z S G j = headnorm z g j := by
  have h0 : (fun k => z k * z k - z k * z k) = fun _ => (0 : EReal) := by
    funext k
    obtain ⟨r, hr⟩ := hz k
    rw [hr, ← EReal.coe_mul, ← EReal.coe_sub, sub_self, EReal.coe_zero]
  have h1 : prod (fun _ => (0 : EReal)) S j = 0 := Finset.sum_eq_zero fun k _ => zero_mul _
  have h64 : Ideal.ofBits .f32 0x42800000#32 = ((64 : ℝ) : EReal) := by
    simp [Ideal.ofBits, Ideal.ieee]
    rw [← EReal.coe_mul]
    norm_num
  have h164 : Ideal.ofBits .f32 0x3C800000#32 = ((1 / 64 : ℝ) : EReal) := by
    simp [Ideal.ofBits, Ideal.ieee]
    rw [← EReal.coe_mul]
    norm_num
  unfold segnorm headnorm rms
  rw [h0, h1, add_zero, prod_block _ _ hS, hG, h64, h164, Ideal.div_coe (by norm_num : (64 : ℝ) ≠ 0)]
  dsimp only
  rw [lane_group]

end Cert.Rows
-- ==== Proof.InProj.Block.lean ====
module

public import proofs.«01_k».proof.Proof.InProj.Head
public import proofs.«01_k».proof.Proof.Gen.InProjIdeal.Frame
public import Idealize.ShloMosaic.Lib.Pipeline.ValueKit
public import Idealize.ShloMosaic.Lib.Pointwise
public import Idealize.ShloMosaic.Lib.Claim

@[expose] public section

set_option maxRecDepth 16384

noncomputable section

/-! # The input projection of one block of 512 tokens, read at an index -/

namespace Cert.InProjIdeal.Block

open Cert.InProjIdeal Cert.InProjIdeal.Gen Cert.Rows Idealize.ShloMosaic Idealize.ShloMosaic.TcCoe Idealize.SL.Sem

variable (x0 : Vec Ideal S512x1024 .f32) (x1 : Vec Ideal S1x1024 .f32) (x2 : Vec Ideal S1024x2048 .bf16) (x3 : Vec Ideal S512x512 .bf16)
  (x4 x5 : Vec Ideal S1x512 .f32) (r : Fin 512)

/-- A row of the block through the norm and the projection. -/
abbrev projected (n : Fin 2048) : EReal :=
  prod (rms 0x44800000#32 (fun k => x0 (ix2 r k)) (fun k => x1 (ix2 0 k))) (fun k j => x2 (ix2 k j)) n

theorem proj_apply (n : Fin 2048) : k0_pay5 x0 x1 x2 (ix2 r n) = projected x0 x1 x2 r n := by
  pointwise [k0_pay5, rms, prod, projected]

/-- The first 512 columns, normed by heads. -/
theorem q_apply (j : Fin 512) : k0_pay7 x0 x1 x2 x3 x4 (ix2 r j)
    = segnorm (fun k => k0_pay5 x0 x1 x2 (ix2 r ⟨k, by omega⟩)) (fun k j => x3 (ix2 k j)) (fun j => x4 (ix2 0 j)) j := by
  unfold k0_pay7 k0_pay6
  generalize k0_pay5 x0 x1 x2 = z
  pointwise [segnorm, prod]

/-- The next 512 columns, normed by heads. -/
theorem k_apply (z : FVec Ideal S512x2048 .f32) (j : Fin 512) : k0_pay2 z (k0_pay6 x3) x5 (ix2 r j)
    = segnorm (fun k => z (ix2 r ⟨512 + k, by omega⟩)) (fun k j => x3 (ix2 k j)) (fun j => x5 (ix2 0 j)) j := by
  pointwise [k0_pay2, k0_pay6, segnorm, prod]

theorem out6_apply (j : Fin 512) : out0_6 x0 x1 x2 x3 x4 x5 (ix2 r j)
    = segnorm (fun k => projected x0 x1 x2 r ⟨k, by omega⟩) (fun k j => x3 (ix2 k j)) (fun j => x4 (ix2 0 j)) j
      * Ideal.ofBits .f32 0x3E000000#32 := by
  have e0 : ∀ X : Vec Ideal S512x1024 .f32, View.ld X r0_0 = X := fun X => View.ld_unit_lit _ X (by decide)
  have e1 : ∀ X : Vec Ideal S1x1024 .f32, View.ld X r0_1 = X := fun X => View.ld_unit_lit _ X (by decide)
  have e2 : ∀ X : Vec Ideal S1024x2048 .bf16, View.ld X r0_2 = X := fun X => View.ld_unit_lit _ X (by decide)
  have e3 : ∀ X : Vec Ideal S512x512 .bf16, View.ld X r0_3 = X := fun X => View.ld_unit_lit _ X (by decide)
  have e4 : ∀ X : Vec Ideal S1x512 .f32, View.ld X r0_4 = X := fun X => View.ld_unit_lit _ X (by decide)
  unfold_out out0_6
  simp only [e0, e1, e2, e3, e4]
  rw [View.canon_cons_unit_lit _ _ _ (by decide)]
  have h := q_apply x0 x1 x2 x3 x4 r j
  simp only [proj_apply] at h
  rw [← h]
  generalize k0_pay7 x0 x1 x2 x3 x4 = z
  pointwise [k0_pay1]

theorem out7_apply (j : Fin 512) : out0_7 x0 x1 x2 x3 x4 x5 (ix2 r j)
    = segnorm (fun k => projected x0 x1 x2 r ⟨512 + k, by omega⟩) (fun k j => x3 (ix2 k j)) (fun j => x5 (ix2 0 j)) j := by
  have e0 : ∀ X : Vec Ideal S512x1024 .f32, View.ld X r0_0 = X := fun X => View.ld_unit_lit _ X (by decide)
  have e1 : ∀ X : Vec Ideal S1x1024 .f32, View.ld X r0_1 = X := fun X => View.ld_unit_lit _ X (by decide)
  have e2 : ∀ X : Vec Ideal S1024x2048 .bf16, View.ld X r0_2 = X := fun X => View.ld_unit_lit _ X (by decide)
  have e3 : ∀ X : Vec Ideal S512x512 .bf16, View.ld X r0_3 = X := fun X => View.ld_unit_lit _ X (by decide)
  have e4 : ∀ X : Vec Ideal S1x512 .f32, View.ld X r0_4 = X := fun X => View.ld_unit_lit _ X (by decide)
  unfold_out out0_7
  simp only [e0, e1, e2, e3, e4]
  rw [View.canon_cons_unit_lit _ _ _ (by decide)]
  refine (k_apply x3 x5 r _ j).trans ?_
  simp only [proj_apply]

theorem out8_apply (j : Fin 512) : out0_8 x0 x1 x2 x3 x4 x5 (ix2 r j) = projected x0 x1 x2 r ⟨1024 + j, by omega⟩ := by
  have e0 : ∀ X : Vec Ideal S512x1024 .f32, View.ld X r0_0 = X := fun X => View.ld_unit_lit _ X (by decide)
  have e1 : ∀ X : Vec Ideal S1x1024 .f32, View.ld X r0_1 = X := fun X => View.ld_unit_lit _ X (by decide)
  have e2 : ∀ X : Vec Ideal S1024x2048 .bf16, View.ld X r0_2 = X := fun X => View.ld_unit_lit _ X (by decide)
  unfold_out out0_8
  simp only [e0, e1, e2]
  rw [View.canon_cons_unit_lit _ _ _ (by decide), ← proj_apply]
  generalize k0_pay5 x0 x1 x2 = z
  pointwise [k0_pay3]

theorem out9_apply (j : Fin 512) : out0_9 x0 x1 x2 x3 x4 x5 (ix2 r j) = projected x0 x1 x2 r ⟨1536 + j, by omega⟩ := by
  have e0 : ∀ X : Vec Ideal S512x1024 .f32, View.ld X r0_0 = X := fun X => View.ld_unit_lit _ X (by decide)
  have e1 : ∀ X : Vec Ideal S1x1024 .f32, View.ld X r0_1 = X := fun X => View.ld_unit_lit _ X (by decide)
  have e2 : ∀ X : Vec Ideal S1024x2048 .bf16, View.ld X r0_2 = X := fun X => View.ld_unit_lit _ X (by decide)
  unfold_out out0_9
  simp only [e0, e1, e2]
  rw [View.canon_cons_unit_lit _ _ _ (by decide), ← proj_apply]
  generalize k0_pay5 x0 x1 x2 = z
  pointwise [k0_pay4]

end Cert.InProjIdeal.Block
-- ==== Proof.InProj.Ref.lean ====
module

public import proofs.«01_k».proof.Proof.Gen.InProjRefIdeal.Read
public import proofs.«01_k».proof.Proof.InProj.Head
public import Idealize.ShloMosaic.Lib.Pipeline.ValueKit
public import Idealize.ShloMosaic.Lib.Pointwise

@[expose] public section

set_option maxRecDepth 16384

noncomputable section

/-! # The reference of the input projection, read at an index -/

namespace Cert.InProjRefIdeal.At

open Cert.InProjRefIdeal Cert.InProjRefIdeal.Read Cert.Rows Idealize.ShloMosaic Idealize.ShloMosaic.TcCoe Idealize.SL.Sem

variable (x0 : S2x8192x1024.Idx → EReal) (x1 : S1024.Idx → EReal) (x2 : S1024x2048.Idx → EReal) (x3 x4 : S64.Idx → EReal)

/-- The batch entry of a token. -/
abbrev bat (i : Fin 16384) : Fin 2 := ⟨(i : ℕ) / 8192, by omega⟩

/-- The place of a token in its batch entry. -/
abbrev pos (i : Fin 16384) : Fin 8192 := ⟨(i : ℕ) % 8192, by omega⟩

/-- A token through the norm and the projection. -/
abbrev projected (b : Fin 2) (l : Fin 8192) (n : Fin 2048) : EReal :=
  prod (rms 0x44800000#32 (fun k => x0 (ix3 b l k)) (fun k => x1 (ix1 k))) (fun k j => x2 (ix2 k j)) n

/-- The norm of the tokens. -/
theorem norm_at (b : Fin 2) (l : Fin 8192) (k : Fin 1024) : val_main_v12 (F := Ideal) x0 x1 (ix3 b l k)
    = rms 0x44800000#32 (fun k => x0 (ix3 b l k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rms]

/-- The projection. -/
theorem proj_at (b : Fin 2) (l : Fin 8192) (n : Fin 2048) : val_main_v13 (F := Ideal) x0 x1 x2 (ix3 b l n) = projected x0 x1 x2 b l n := by
  unfold projected
  simp only [funext fun k => (norm_at x0 x1 b l k).symm]
  unfold val_main_v13
  generalize val_main_v12 (F := Ideal) x0 x1 = z
  pointwise [prod]

/-- The queries, normed by heads and scaled. -/
theorem q_at (b : Fin 2) (l : Fin 8192) (h : Fin 8) (e : Fin 64) : val_main_v34 (F := Ideal) x0 x1 x2 x3 (ix4 b l h e)
    = rms 0x42800000#32 (fun e => val_main_v13 (F := Ideal) x0 x1 x2 (ix3 b l ⟨lane h e, by omega⟩)) (fun e => x3 (ix1 e)) e
      * Ideal.ofBits .f32 0x3E000000#32 := by
  have hz : ∀ e, val_main_v15 (F := Ideal) x0 x1 x2 (ix4 b l h e) = val_main_v13 (F := Ideal) x0 x1 x2 (ix3 b l ⟨lane h e, by omega⟩) := by
    intro e
    unfold val_main_v15 val_main_v14
    generalize val_main_v13 (F := Ideal) x0 x1 x2 = z
    pointwise [lane]
  simp only [← hz]
  unfold val_main_v34 val_main_v32 val_main_v29 val_main_v28 val_main_v27 val_main_v26 val_main_v24 val_main_v22 val_main_v21 val_main_v20
  generalize val_main_v15 (F := Ideal) x0 x1 x2 = z
  pointwise [val_main_v33, val_main_v31, val_main_v30, val_main_v25, val_main_v23, val_main_cst_2, val_main_cst_3, val_main_cst_4, val_main_cst_5, rms]

/-- The keys, normed by heads. -/
theorem k_at (b : Fin 2) (l : Fin 8192) (h : Fin 8) (e : Fin 64) : val_main_v47 (F := Ideal) x0 x1 x2 x4 (ix4 b l h e)
    = rms 0x42800000#32 (fun e => val_main_v13 (F := Ideal) x0 x1 x2 (ix3 b l ⟨512 + lane h e, by omega⟩)) (fun e => x4 (ix1 e)) e := by
  have hz : ∀ e, val_main_v17 (F := Ideal) x0 x1 x2 (ix4 b l h e) = val_main_v13 (F := Ideal) x0 x1 x2 (ix3 b l ⟨512 + lane h e, by omega⟩) := by
    intro e
    unfold val_main_v17 val_main_v16
    generalize val_main_v13 (F := Ideal) x0 x1 x2 = z
    pointwise [lane]
  simp only [← hz]
  unfold val_main_v47 val_main_v44 val_main_v43 val_main_v42 val_main_v41 val_main_v39 val_main_v37 val_main_v36 val_main_v35
  generalize val_main_v17 (F := Ideal) x0 x1 x2 = z
  pointwise [val_main_v46, val_main_v45, val_main_v40, val_main_v38, val_main_cst_6, val_main_cst_7, val_main_cst_8, rms]

/-- The first result at a token and a lane. -/
theorem v49_at (i : Fin 16384) (j : Fin 512) : val_main_v49 (F := Ideal) x0 x1 x2 x3 (ix2 i j)
    = headnorm (fun k => projected x0 x1 x2 (bat i) (pos i) ⟨k, by omega⟩) (fun e => x3 (ix1 e)) j * Ideal.ofBits .f32 0x3E000000#32 := by
  have e : val_main_v49 (F := Ideal) x0 x1 x2 x3 (ix2 i j) = val_main_v34 (F := Ideal) x0 x1 x2 x3 (ix4 (bat i) (pos i) (group j) (place j)) := by
    unfold val_main_v49 val_main_v48
    generalize val_main_v34 (F := Ideal) x0 x1 x2 x3 = z
    pointwise [bat, pos, group, place]
  rw [e, q_at]
  simp only [proj_at]
  rfl

/-- The second result at a token and a lane. -/
theorem v51_at (i : Fin 16384) (j : Fin 512) : val_main_v51 (F := Ideal) x0 x1 x2 x4 (ix2 i j)
    = headnorm (fun k => projected x0 x1 x2 (bat i) (pos i) ⟨512 + k, by omega⟩) (fun e => x4 (ix1 e)) j := by
  have e : val_main_v51 (F := Ideal) x0 x1 x2 x4 (ix2 i j) = val_main_v47 (F := Ideal) x0 x1 x2 x4 (ix4 (bat i) (pos i) (group j) (place j)) := by
    unfold val_main_v51 val_main_v50
    generalize val_main_v47 (F := Ideal) x0 x1 x2 x4 = z
    pointwise [bat, pos, group, place]
  rw [e, k_at]
  simp only [proj_at]
  rfl

/-- The third result at a token and a column. -/
theorem v53_at (i : Fin 16384) (j : Fin 512) : val_main_v53 (F := Ideal) x0 x1 x2 (ix2 i j)
    = projected x0 x1 x2 (bat i) (pos i) ⟨1024 + j, by omega⟩ := by
  rw [← proj_at]
  unfold val_main_v53 val_main_v52 val_main_v18
  generalize val_main_v13 (F := Ideal) x0 x1 x2 = z
  pointwise [bat, pos]

/-- The fourth result at a token and a column. -/
theorem v54_at (i : Fin 16384) (j : Fin 512) : val_main_v54 (F := Ideal) x0 x1 x2 (ix2 i j)
    = projected x0 x1 x2 (bat i) (pos i) ⟨1536 + j, by omega⟩ := by
  rw [← proj_at]
  unfold val_main_v54 val_main_v19
  generalize val_main_v13 (F := Ideal) x0 x1 x2 = z
  pointwise [bat, pos]

end Cert.InProjRefIdeal.At
-- ==== Proof.InProj.Final.lean ====
module

public import proofs.«01_k».proof.Proof.InProj.Block
public import proofs.«01_k».proof.Proof.InProj.Ref
public import Idealize.ShloMosaic.Lib.Claim
public import Idealize.ShloMosaic.Lib.KernelVsHost

@[expose] public section

set_option maxRecDepth 16384

noncomputable section

/-! # The arrays the input projection leaves -/

namespace Cert.InProjIdeal.Final

open Cert.InProjIdeal Cert.InProjIdeal.Gen Cert.Rows Idealize.ShloMosaic Idealize.ShloMosaic.TcCoe Idealize.SL.Sem
open Idealize.ShloMosaic.Pipeline (Dat)
open Cert.InProjRefIdeal.At (bat pos projected)

variable (m : (ℓ : Loc nD τ sig) → Buf (Elt Ideal) ℓ)

/-- Which block of its array each window holds at each point of the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem N_le (t : Fin cfg0.N) : t.val < 32 := t.isLt

/-- The token of a grid point's row. -/
def tok (t : Fin cfg0.N) (r : Fin 512) : Fin 16384 := ⟨512 * t.val + r, by have := N_le t; omega⟩

theorem x_blk (c : Dev nD) (t : Fin cfg0.N) (r : Fin 512) (d : Fin 1024) : iblk m c 0 t (ix2 r d) = V m c main_v0 (ix2 (tok t r) d) := by
  blk_point [iblk, idx t, tok]

theorem blk1 (c : Dev nD) (t : Fin cfg0.N) : iblk m c 1 t = V m c main_v10 := by
  funext y
  blk_point [iblk, idx t]

theorem blk2 (c : Dev nD) (t : Fin cfg0.N) : iblk m c 2 t = V m c main_v11 := by
  funext y
  blk_point [iblk, idx t]

theorem blk3 (c : Dev nD) (t : Fin cfg0.N) : iblk m c 3 t = V m c main_v9 := by
  funext y
  blk_point [iblk, idx t]

theorem blk4 (c : Dev nD) (t : Fin cfg0.N) : iblk m c 4 t = V m c main_v15 := by
  funext y
  blk_point [iblk, idx t]

theorem blk5 (c : Dev nD) (t : Fin cfg0.N) : iblk m c 5 t = V m c main_v19 := by
  funext y
  blk_point [iblk, idx t]

/-! ## What the host prepares -/

theorem tokens_at (x : FVec Ideal S2x8192x1024 .f32) (i : Fin 16384) (k : Fin 1024) :
    shapeCast S16384x1024 x shapeCasts_S2x8192x1024_S16384x1024 (ix2 i k) = x (ix3 (bat i) (pos i) k) := by
  pointwise [bat, pos]

theorem v0_at (c : Dev nD) (i : Fin 16384) (k : Fin 1024) : V m c main_v0 (ix2 i k) = m (c.tc.loc main_arg0) (ix3 (bat i) (pos i) k) := by
  have e : V m c main_v0 = shapeCast S16384x1024 (m (c.tc.loc main_arg0) : FVec Ideal S2x8192x1024 .f32)
      shapeCasts_S2x8192x1024_S16384x1024 := by
    unfold V hostOps0 hostOps0_1 hostOps0_2
    simp only [List.flatten_cons, List.flatten_nil, List.append_nil, List.cons_append, List.nil_append]
    after_results
    rfl
  rw [e]
  exact tokens_at _ i k

theorem v10_at (c : Dev nD) (j : Fin 1024) : V m c main_v10 (ix2 0 j) = m (c.tc.loc main_arg1) (ix1 j) := by
  have e : V m c main_v10 = shapeCast S1x1024 (m (c.tc.loc main_arg1) : FVec Ideal S1024 .f32) shapeCasts_S1024_S1x1024 := by
    unfold V hostOps0 hostOps0_1 hostOps0_2
    simp only [List.flatten_cons, List.flatten_nil, List.append_nil, List.cons_append, List.nil_append]
    after_results
    rfl
  rw [e]
  pointwise

theorem v11_at (c : Dev nD) (k : Fin 1024) (j : Fin 2048) : V m c main_v11 (ix2 k j) = m (c.tc.loc main_arg2) (ix2 k j) := by
  have e : V m c main_v11 = (m (c.tc.loc main_arg2) : FVec Ideal S1024x2048 .f32) := by
    unfold V hostOps0 hostOps0_1 hostOps0_2
    simp only [List.flatten_cons, List.flatten_nil, List.append_nil, List.cons_append, List.nil_append]
    after_results
    rfl
  rw [e]

theorem v15_at (c : Dev nD) (j : Fin 512) : V m c main_v15 (ix2 0 j) = m (c.tc.loc main_arg3) (ix1 (place j)) := by
  have e : V m c main_v15 = shapeCast S1x512 (shapeCast S512 (broadcastInDim S8x64 ![0, 1] bcast_S1x64_S8x64_0_1
      (shapeCast S1x64 (m (c.tc.loc main_arg3) : FVec Ideal S64 .f32) shapeCasts_S64_S1x64)) shapeCasts_S8x64_S512) shapeCasts_S512_S1x512 := by
    unfold V hostOps0 hostOps0_1 hostOps0_2
    simp only [List.flatten_cons, List.flatten_nil, List.append_nil, List.cons_append, List.nil_append]
    after_results
    rfl
  rw [e]
  pointwise [place]

theorem v19_at (c : Dev nD) (j : Fin 512) : V m c main_v19 (ix2 0 j) = m (c.tc.loc main_arg4) (ix1 (place j)) := by
  have e : V m c main_v19 = shapeCast S1x512 (shapeCast S512 (broadcastInDim S8x64 ![0, 1] bcast_S1x64_S8x64_0_1
      (shapeCast S1x64 (m (c.tc.loc main_arg4) : FVec Ideal S64 .f32) shapeCasts_S64_S1x64)) shapeCasts_S8x64_S512) shapeCasts_S512_S1x512 := by
    unfold V hostOps0 hostOps0_1 hostOps0_2
    simp only [List.flatten_cons, List.flatten_nil, List.append_nil, List.cons_append, List.nil_append]
    after_results
    rfl
  rw [e]
  pointwise [place]

/-- The unit matrix over the heads, by comparing two counts. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_at (a b : Fin 8) : eye (ix2 a b) = if a = b then (1 : EReal) else 0 := by
  pointwise [eye]
  have h : ∀ a b : Fin 8, IntOp.cmpi CmpIPredicate.eq (IntOp.addi (BitVec.ofNat 32 (a : ℕ)) 0#32) (BitVec.ofNat 32 (b : ℕ))
      = if a = b then 1#1 else 0#1 := by decide
  rw [h]
  split
  · show ((1 : ℕ) : EReal) = 1
    exact Nat.cast_one
  · show ((0 : ℕ) : EReal) = 0
    exact Nat.cast_zero

theorem v9_at (c : Dev nD) (k j : Fin 512) : V m c main_v9 (ix2 k j) = if (k : ℕ) / 64 = (j : ℕ) / 64 then (1 : EReal) else 0 := by
  have e : V m c main_v9 = (shapeCast S512x512 (mulf
      (broadcastInDim S8x64x8x64 ![0, 1, 2, 3] bcast_S8x1x8x1_S8x64x8x64_0_1_2_3 (broadcastInDim S8x1x8x1 ![0, 2] bcast_S8x8_S8x1x8x1_0_2 eye))
      (broadcastInDim S8x64x8x64 ![0, 1, 2, 3] bcast_S1x64x1x64_S8x64x8x64_0_1_2_3 (broadcastInDim S1x64x1x64 ![1, 3] bcast_S64x64_S1x64x1x64_1_3
        (broadcastInDim S64x64 ![] bcast_S_S64x64 (constant S_ .f32 0x3F800000#32)))) : FVec Ideal S8x64x8x64 .f32)
      shapeCasts_S8x64x8x64_S512x512 : FVec Ideal S512x512 .f32) := by
    unfold V hostOps0 hostOps0_1 hostOps0_2
    simp only [List.flatten_cons, List.flatten_nil, List.append_nil, List.cons_append, List.nil_append]
    after_results
    rfl
  have e' : V m c main_v9 (ix2 k j) = eye (ix2 (group k) (group j)) * Ideal.ofBits .f32 0x3F800000#32 := by
    rw [e]
    generalize eye = z
    pointwise [group]
  have h1 : Ideal.ofBits .f32 0x3F800000#32 = 1 := by
    simp [Ideal.ofBits, Ideal.ieee]
    rw [← EReal.coe_mul]
    norm_num
  rw [e', h1, mul_one, eye_at]
  simp only [group, Fin.mk.injEq]

/-! ## The arrays after the run -/

/-- The projected row of a grid point's block is the projected token. -/
theorem projected_eq (c : Dev nD) (t : Fin cfg0.N) (r : Fin 512) (n : Fin 2048) :
    Block.projected (iblk m c 0 t) (iblk m c 1 t) (iblk m c 2 t) r n
      = projected (m (c.tc.loc main_arg0)) (m (c.tc.loc main_arg1)) (m (c.tc.loc main_arg2)) (bat (tok t r)) (pos (tok t r)) n := by
  unfold Block.projected projected
  have h0 := funext fun k => (x_blk m c t r k).trans (v0_at m c _ k)
  have h1 := funext fun j => (congrFun (blk1 m c t) _).trans (v10_at m c j)
  have h2 := funext fun k => funext fun j => (congrFun (blk2 m c t) _).trans (v11_at m c k j)
  rw [h0, h1, h2]

/-- A projected token is finite when the gains and the weights are. -/
theorem projected_real (c : Dev nD) (hg : ∀ i, ∃ r : ℝ, m (c.tc.loc main_arg1) i = (r : EReal))
    (hw : ∀ i, ∃ r : ℝ, m (c.tc.loc main_arg2) i = (r : EReal)) (b : Fin 2) (l : Fin 8192) (n : Fin 2048) :
    ∃ r : ℝ, projected (m (c.tc.loc main_arg0)) (m (c.tc.loc main_arg1)) (m (c.tc.loc main_arg2)) b l n = (r : EReal) := by
  have hN : Ideal.ofBits .f32 0x44800000#32 = ((1024 : ℝ) : EReal) := by
    simp [Ideal.ofBits, Ideal.ieee]
    rw [← EReal.coe_mul]
    norm_num
  exact prod_real _ _ _ (fun k => rms_real 0x44800000#32 1024 hN (by norm_num) _ _ k (hg _)) (fun k => hw _)

theorem out_emb6 (t : Fin cfg0.N) (y : S512x512.Idx) : (win0_6.blk t).view.emb y
    = ix2 (tok t ⟨(y 0).val, (y 0).isLt⟩) (⟨(y 1).val, (y 1).isLt⟩ : Fin 512) := by
  have hi := (idx t).2.2.2.2.2.2.1
  blk_ext [hi, tok]

/-- What a grid point's body leaves of the first result. -/
theorem out6_token (c : Dev nD) (hg : ∀ i, ∃ r : ℝ, m (c.tc.loc main_arg1) i = (r : EReal))
    (hw : ∀ i, ∃ r : ℝ, m (c.tc.loc main_arg2) i = (r : EReal)) (t : Fin cfg0.N) (r j : Fin 512) :
    out0_6 (F := Ideal) (iblk m c 0 t) (iblk m c 1 t) (iblk m c 2 t) (iblk m c 3 t) (iblk m c 4 t) (iblk m c 5 t) (ix2 r j)
      = Cert.InProjRefIdeal.Read.val_main_v49 (F := Ideal) (m (c.tc.loc main_arg0)) (m (c.tc.loc main_arg1)) (m (c.tc.loc main_arg2)) (m (c.tc.loc main_arg3)) (ix2 (tok t r) j) := by
  rw [Block.out6_apply, Cert.InProjRefIdeal.At.v49_at]
  simp only [projected_eq]
  exact congrArg (· * Ideal.ofBits .f32 0x3E000000#32) (segnorm_eq _ _ _ (fun e => m (c.tc.loc main_arg3) (ix1 e))
    (fun k => projected_real m c hg hw _ _ _)
    (fun k j => (congrFun (blk3 m c t) _).trans (v9_at m c k j))
    (fun j => (congrFun (blk4 m c t) _).trans (v15_at m c j)) j)

/-- The first array after the run is the reference's. -/
theorem final6 (c : Dev nD) (hg : ∀ i, ∃ r : ℝ, m (c.tc.loc main_arg1) i = (r : EReal))
    (hw : ∀ i, ∃ r : ℝ, m (c.tc.loc main_arg2) i = (r : EReal)) :
    (dats m 0 c).arrAt 6 (cfgs 0).N = fun i : S16384x512.Idx =>
      Cert.InProjRefIdeal.Read.val_main_v49 (F := Ideal) (m (c.tc.loc main_arg0)) (m (c.tc.loc main_arg1)) (m (c.tc.loc main_arg2)) (m (c.tc.loc main_arg3)) i := by
  refine (dats m 0 c).arrAt_eq_of_covers 6 _ (by decide +kernel) fun t _ y => ?_
  blk_simp
  rw [after0_6]
  have h0 : (y 0).val < 512 := (y 0).isLt
  have h1 : (y 1).val < 512 := (y 1).isLt
  have hy : y = ix2 (⟨(y 0).val, h0⟩ : Fin 512) (⟨(y 1).val, h1⟩ : Fin 512) := by
    funext a
    match a with
    | ⟨0, _⟩ => rfl
    | ⟨1, _⟩ => rfl
  rw [out_emb6 t y]
  exact (congrArg _ hy).trans (out6_token m c hg hw t _ _)

theorem out_emb7 (t : Fin cfg0.N) (y : S512x512.Idx) : (win0_7.blk t).view.emb y
    = ix2 (tok t ⟨(y 0).val, (y 0).isLt⟩) (⟨(y 1).val, (y 1).isLt⟩ : Fin 512) := by
  have hi := (idx t).2.2.2.2.2.2.2.1
  blk_ext [hi, tok]

/-- What a grid point's body leaves of the second result. -/
theorem out7_token (c : Dev nD) (hg : ∀ i, ∃ r : ℝ, m (c.tc.loc main_arg1) i = (r : EReal))
    (hw : ∀ i, ∃ r : ℝ, m (c.tc.loc main_arg2) i = (r : EReal)) (t : Fin cfg0.N) (r j : Fin 512) :
    out0_7 (F := Ideal) (iblk m c 0 t) (iblk m c 1 t) (iblk m c 2 t) (iblk m c 3 t) (iblk m c 4 t) (iblk m c 5 t) (ix2 r j)
      = Cert.InProjRefIdeal.Read.val_main_v51 (F := Ideal) (m (c.tc.loc main_arg0)) (m (c.tc.loc main_arg1)) (m (c.tc.loc main_arg2)) (m (c.tc.loc main_arg4)) (ix2 (tok t r) j) := by
  rw [Block.out7_apply, Cert.InProjRefIdeal.At.v51_at]
  simp only [projected_eq]
  exact segnorm_eq _ _ _ (fun e => m (c.tc.loc main_arg4) (ix1 e))
    (fun k => projected_real m c hg hw _ _ _)
    (fun k j => (congrFun (blk3 m c t) _).trans (v9_at m c k j))
    (fun j => (congrFun (blk5 m c t) _).trans (v19_at m c j)) j

/-- The second array after the run is the reference's. -/
theorem final7 (c : Dev nD) (hg : ∀ i, ∃ r : ℝ, m (c.tc.loc main_arg1) i = (r : EReal))
    (hw : ∀ i, ∃ r : ℝ, m (c.tc.loc main_arg2) i = (r : EReal)) :
    (dats m 0 c).arrAt 7 (cfgs 0).N = fun i : S16384x512.Idx =>
      Cert.InProjRefIdeal.Read.val_main_v51 (F := Ideal) (m (c.tc.loc main_arg0)) (m (c.tc.loc main_arg1)) (m (c.tc.loc main_arg2)) (m (c.tc.loc main_arg4)) i := by
  refine (dats m 0 c).arrAt_eq_of_covers 7 _ (by decide +kernel) fun t _ y => ?_
  blk_simp
  rw [after0_7]
  have h0 : (y 0).val < 512 := (y 0).isLt
  have h1 : (y 1).val < 512 := (y 1).isLt
  have hy : y = ix2 (⟨(y 0).val, h0⟩ : Fin 512) (⟨(y 1).val, h1⟩ : Fin 512) := by
    funext a
    match a with
    | ⟨0, _⟩ => rfl
    | ⟨1, _⟩ => rfl
  rw [out_emb7 t y]
  exact (congrArg _ hy).trans (out7_token m c hg hw t _ _)

theorem out_emb8 (t : Fin cfg0.N) (y : S512x512.Idx) : (win0_8.blk t).view.emb y
    = ix2 (tok t ⟨(y 0).val, (y 0).isLt⟩) (⟨(y 1).val, (y 1).isLt⟩ : Fin 512) := by
  have hi := (idx t).2.2.2.2.2.2.2.2.1
  blk_ext [hi, tok]

/-- What a grid point's body leaves of the third result. -/
theorem out8_token (c : Dev nD) (t : Fin cfg0.N) (r j : Fin 512) :
    out0_8 (F := Ideal) (iblk m c 0 t) (iblk m c 1 t) (iblk m c 2 t) (iblk m c 3 t) (iblk m c 4 t) (iblk m c 5 t) (ix2 r j)
      = Cert.InProjRefIdeal.Read.val_main_v53 (F := Ideal) (m (c.tc.loc main_arg0)) (m (c.tc.loc main_arg1)) (m (c.tc.loc main_arg2)) (ix2 (tok t r) j) := by
  rw [Block.out8_apply, Cert.InProjRefIdeal.At.v53_at]
  exact projected_eq m c t r _

/-- The third array after the run is the reference's. -/
theorem final8 (c : Dev nD) :
    (dats m 0 c).arrAt 8 (cfgs 0).N = fun i : S16384x512.Idx =>
      Cert.InProjRefIdeal.Read.val_main_v53 (F := Ideal) (m (c.tc.loc main_arg0)) (m (c.tc.loc main_arg1)) (m (c.tc.loc main_arg2)) i := by
  refine (dats m 0 c).arrAt_eq_of_covers 8 _ (by decide +kernel) fun t _ y => ?_
  blk_simp
  rw [after0_8]
  have h0 : (y 0).val < 512 := (y 0).isLt
  have h1 : (y 1).val < 512 := (y 1).isLt
  have hy : y = ix2 (⟨(y 0).val, h0⟩ : Fin 512) (⟨(y 1).val, h1⟩ : Fin 512) := by
    funext a
    match a with
    | ⟨0, _⟩ => rfl
    | ⟨1, _⟩ => rfl
  rw [out_emb8 t y]
  exact (congrArg _ hy).trans (out8_token m c t _ _)

theorem out_emb9 (t : Fin cfg0.N) (y : S512x512.Idx) : (win0_9.blk t).view.emb y
    = ix2 (tok t ⟨(y 0).val, (y 0).isLt⟩) (⟨(y 1).val, (y 1).isLt⟩ : Fin 512) := by
  have hi := (idx t).2.2.2.2.2.2.2.2.2
  blk_ext [hi, tok]

/-- What a grid point's body leaves of the fourth result. -/
theorem out9_token (c : Dev nD) (t : Fin cfg0.N) (r j : Fin 512) :
    out0_9 (F := Ideal) (iblk m c 0 t) (iblk m c 1 t) (iblk m c 2 t) (iblk m c 3 t) (iblk m c 4 t) (iblk m c 5 t) (ix2 r j)
      = Cert.InProjRefIdeal.Read.val_main_v54 (F := Ideal) (m (c.tc.loc main_arg0)) (m (c.tc.loc main_arg1)) (m (c.tc.loc main_arg2)) (ix2 (tok t r) j) := by
  rw [Block.out9_apply, Cert.InProjRefIdeal.At.v54_at]
  exact projected_eq m c t r _

/-- The fourth array after the run is the reference's. -/
theorem final9 (c : Dev nD) :
    (dats m 0 c).arrAt 9 (cfgs 0).N = fun i : S16384x512.Idx =>
      Cert.InProjRefIdeal.Read.val_main_v54 (F := Ideal) (m (c.tc.loc main_arg0)) (m (c.tc.loc main_arg1)) (m (c.tc.loc main_arg2)) i := by
  refine (dats m 0 c).arrAt_eq_of_covers 9 _ (by decide +kernel) fun t _ y => ?_
  blk_simp
  rw [after0_9]
  have h0 : (y 0).val < 512 := (y 0).isLt
  have h1 : (y 1).val < 512 := (y 1).isLt
  have hy : y = ix2 (⟨(y 0).val, h0⟩ : Fin 512) (⟨(y 1).val, h1⟩ : Fin 512) := by
    funext a
    match a with
    | ⟨0, _⟩ => rfl
    | ⟨1, _⟩ => rfl
  rw [out_emb9 t y]
  exact (congrArg _ hy).trans (out9_token m c t _ _)

end Cert.InProjIdeal.Final
-- ==== Proof.InProj.Claims.lean ====
module

public import proofs.«01_k».proof.Defs
public import proofs.«01_k».proof.Proof.Gen.Pre_finite_x
public import proofs.«01_k».proof.Proof.Gen.InProjIdeal.Value
public import proofs.«01_k».proof.Proof.Gen.InProjRefIdeal.Run
public import proofs.«01_k».proof.Proof.Gen.InProjRefIdeal.Read
public import proofs.«01_k».proof.Proof.Finite
public import proofs.«01_k».proof.Proof.InProj.Final

@[expose] public section

noncomputable section

/-! # The claims about the input projection -/

namespace Cert.Proof

open Idealize.ShloMosaic Idealize.SL.Sem

/-- The reference runs and leaves its arguments. -/
theorem inproj_ref_frame : quiescent_InProjRefIdeal := by
  intro m ρ _
  exact (θ_run Cert.InProjRefIdeal.defs _ _).mono
    (fun r h => ⟨fun c => (h c).2.2.2.2, sem_eq_zero_of_no_sems (by decide) r.2⟩)
    (Cert.InProjRefIdeal.Value.run m ρ)

/-- The same under the precondition. -/
theorem inproj_ref_frame_pre : quiescent_InProjRefIdeal_pre_finite_x :=
  fun m ρ _ => inproj_ref_frame m ρ trivial

/-- The kernel's four arrays are the reference's, for finite gains of the norm and finite weights. -/
theorem inproj_algebraic : algebraic_InProjIdeal_InProjRefIdeal_pre_finite_x := by
  pair_intro
  · run_from Cert.InProjIdeal.Value.run_blocks m g
  · run_from Cert.InProjRefIdeal.Value.run m' g'
    · refine (Cert.InProjRefIdeal.Read.val_main_v49_eq (m (c.tc.loc Cert.InProjIdeal.main_arg0)) (m (c.tc.loc Cert.InProjIdeal.main_arg1)) (m (c.tc.loc Cert.InProjIdeal.main_arg2)) (m (c.tc.loc Cert.InProjIdeal.main_arg3))).trans ?_
      exact (Cert.InProjIdeal.Final.final6 m c
        (fun i => Cert.Finite.real_of_bit _ (congrFun (hpre c).1 i)) (fun i => Cert.Finite.real_of_bit _ (congrFun (hpre c).2 i))).symm
    · refine (Cert.InProjRefIdeal.Read.val_main_v51_eq (m (c.tc.loc Cert.InProjIdeal.main_arg0)) (m (c.tc.loc Cert.InProjIdeal.main_arg1)) (m (c.tc.loc Cert.InProjIdeal.main_arg2)) (m (c.tc.loc Cert.InProjIdeal.main_arg4))).trans ?_
      exact (Cert.InProjIdeal.Final.final7 m c
        (fun i => Cert.Finite.real_of_bit _ (congrFun (hpre c).1 i)) (fun i => Cert.Finite.real_of_bit _ (congrFun (hpre c).2 i))).symm
    · refine (Cert.InProjRefIdeal.Read.val_main_v53_eq (m (c.tc.loc Cert.InProjIdeal.main_arg0)) (m (c.tc.loc Cert.InProjIdeal.main_arg1)) (m (c.tc.loc Cert.InProjIdeal.main_arg2))).trans ?_
      exact (Cert.InProjIdeal.Final.final8 m c).symm
    · refine (Cert.InProjRefIdeal.Read.val_main_v54_eq (m (c.tc.loc Cert.InProjIdeal.main_arg0)) (m (c.tc.loc Cert.InProjIdeal.main_arg1)) (m (c.tc.loc Cert.InProjIdeal.main_arg2))).trans ?_
      exact (Cert.InProjIdeal.Final.final9 m c).symm

end Cert.Proof
-- ==== Proof.Mix.Block.lean ====
module

public import proofs.«01_k».proof.Proof.Rows
public import proofs.«01_k».proof.Proof.Gen.MixMemIdeal.Frame
public import Idealize.ShloMosaic.Lib.Pipeline.ValueKit
public import Idealize.ShloMosaic.Lib.Pointwise
public import Idealize.ShloMosaic.Lib.Claim

@[expose] public section

set_option maxRecDepth 16384

noncomputable section

/-! # The mix and the memory attention of one block of 512 tokens, read at an index -/

namespace Cert.MixMemIdeal.Block

open Cert.MixMemIdeal Cert.MixMemIdeal.Gen Cert.Rows Idealize.ShloMosaic Idealize.ShloMosaic.TcCoe Idealize.SL.Sem

/-- The row maximum starts at `⊥`. -/
theorem init_eq : Ideal.ofBits FTy.f32 0xFF800000#32 = ⊥ := by simp [Ideal.ofBits, Ideal.ieee]

/-- The gated unit of the block. -/
theorem gated_apply (y : Vec Ideal S1x512x512 .f32) (w : Vec Ideal S512x512 .bf16) (b : Vec Ideal S1x512 .f32) (r j : Fin 512) :
    k0_pay2 y w b (ix2 r j) = gated (fun k => y (ix3 0 r k)) (fun k j => w (ix2 k j)) (fun j => b (ix2 0 j)) j := by
  pointwise [k0_pay2, gated, gelu, prod]
  rfl

/-- The norm of the attention's rows. -/
theorem att_apply (a : Vec Ideal S1x512x512 .f32) (g : Vec Ideal S1x512 .f32) (r j : Fin 512) :
    k0_pay3 a g (ix2 r j) = rms 0x44000000#32 (fun k => a (ix3 0 r k)) (fun j => g (ix2 0 j)) j := by
  pointwise [k0_pay3, rms]

/-- The residual rows after the mix. -/
theorem mixed_apply (s a : FVec Ideal S512x512 .f32) (g : Vec Ideal S1x512 .f32) (x : Vec Ideal S1x512x1024 .f32)
    (wa ws : Vec Ideal S512x1024 .bf16) (r : Fin 512) (j : Fin 1024) :
    k0_pay4 s a g x wa ws (ix2 r j) = x (ix3 0 r j) + prod (fun k => a (ix2 r k)) (fun k j => wa (ix2 k j)) j
      + prod (rms 0x44000000#32 (fun k => s (ix2 r k)) (fun j => g (ix2 0 j))) (fun k j => ws (ix2 k j)) j := by
  pointwise [k0_pay4, rms, prod]

/-- The normed rows the memory's queries are made of. -/
theorem normed_apply (s a : FVec Ideal S512x512 .f32) (g : Vec Ideal S1x512 .f32) (x : Vec Ideal S1x512x1024 .f32)
    (wa ws : Vec Ideal S512x1024 .bf16) (g' : Vec Ideal S1x1024 .f32) (r : Fin 512) (j : Fin 1024) :
    k0_pay5 s a g x wa ws g' (ix2 r j) = rms 0x44800000#32 (fun k => k0_pay4 s a g x wa ws (ix2 r k)) (fun j => g' (ix2 0 j)) j := by
  unfold k0_pay5
  generalize k0_pay4 s a g x wa ws = h
  pointwise [rms]

/-- The queries. -/
theorem query_apply (h : FVec Ideal S512x1024 .bf16) (w : Vec Ideal S1024x1024 .bf16) (r : Fin 512) (j : Fin 1024) :
    k0_pay6 h w (ix2 r j) = prod (fun k => h (ix2 r k)) (fun k j => w (ix2 k j)) j := by
  pointwise [k0_pay6, prod]

/-- The first head. -/
theorem head0_apply (h : FVec Ideal S512x1024 .bf16) (w : Vec Ideal S1024x1024 .bf16) (g : Vec Ideal S1x256 .f32)
    (k v : Vec Ideal S1x256x256 .bf16) (r : Fin 512) (e : Fin 256) :
    k0_pay7 h w g k v (ix2 r e) = average (score (fun e => k0_pay6 h w (ix2 r (col 0 e))) (fun e => g (ix2 0 e)) (fun s e => k (ix3 0 s e)))
      (fun s => v (ix3 0 s e)) := by
  unfold k0_pay7
  generalize k0_pay6 h w = q
  pointwise [average, score, rms, Soft.weight, Soft.top, col]
  rw [init_eq]

/-- The second head. -/
theorem head1_apply (h : FVec Ideal S512x1024 .bf16) (w : Vec Ideal S1024x1024 .bf16) (g : Vec Ideal S1x256 .f32)
    (k v : Vec Ideal S1x256x256 .bf16) (r : Fin 512) (e : Fin 256) :
    k0_pay11 (k0_pay8 h w) (k0_pay9 g) (k0_pay10 h w) k v (ix2 r e)
      = average (score (fun e => k0_pay6 h w (ix2 r (col 1 e))) (fun e => g (ix2 0 e)) (fun s e => k (ix3 0 s e)))
      (fun s => v (ix3 0 s e)) := by
  unfold k0_pay11 k0_pay10 k0_pay9 k0_pay8
  generalize k0_pay6 h w = q
  pointwise [average, score, rms, Soft.weight, Soft.top, col]
  rw [init_eq]

/-- The third head. -/
theorem head2_apply (q : FVec Ideal S512x1024 .f32) (g : Vec Ideal S1x256 .f32)
    (k v : Vec Ideal S1x256x256 .bf16) (r : Fin 512) (e : Fin 256) :
    k0_pay15 (k0_pay12 q) (k0_pay13 g) (k0_pay14 q) k v (ix2 r e)
      = average (score (fun e => q (ix2 r (col 2 e))) (fun e => g (ix2 0 e)) (fun s e => k (ix3 0 s e)))
      (fun s => v (ix3 0 s e)) := by
  pointwise [k0_pay15, k0_pay14, k0_pay13, k0_pay12, average, score, rms, Soft.weight, Soft.top, col]
  rw [init_eq]

/-- The fourth head's value, its query already scaled. -/
def lastV (q : FVec Ideal S512x256 .bf16) (k v : Vec Ideal S1x256x256 .bf16) : FVec Ideal S512x256 .f32 :=
  have p : FVec Ideal S512x256 .f32 :=
    exp (subf (matmul dot_S512x256_S256x256_S512x256_1_1_0_0_n_n none q (shapeCast S256x256 k shapeCasts_S1x256x256_S256x256 : FVec Ideal S256x256 .bf16) (constant S512x256 .f32 0x00000000#32))
      (broadcastTo S512x256 (shapeCast S512x1 (multiReduction .maximumf [1] S512
        (matmul dot_S512x256_S256x256_S512x256_1_1_0_0_n_n none q (shapeCast S256x256 k shapeCasts_S1x256x256_S256x256 : FVec Ideal S256x256 .bf16) (constant S512x256 .f32 0x00000000#32))
        0xFF800000#32 reduces_S512x256_S512 (.inl rfl) rfl) shapeCasts_S512_S512x1) broadcasts_S512x1_S512x256))
  divf (matmul dot_S512x256_S256x256_S512x256_1_0_0_1_n_n none (truncf .bf16 p bitsLt_bf16_f32)
      (shapeCast S256x256 v shapeCasts_S1x256x256_S256x256 : FVec Ideal S256x256 .bf16) (constant S512x256 .f32 0x00000000#32))
    (broadcastTo S512x256 (shapeCast S512x1 (multiReduction .add [1] S512 p 0x00000000#32 reduces_S512x256_S512 (.inl rfl) rfl)
      shapeCasts_S512_S512x1) broadcasts_S512x1_S512x256)

/-- The residual plus the four heads through the last projection, transposed. -/
def tailV (h : FVec Ideal S512x1024 .f32) (a b c d : FVec Ideal S512x256 .f32) (w : Vec Ideal S1024x1024 .bf16) : FVec Ideal S1024x512 .f32 :=
  transpose S1024x512 [1, 0] (addf h (matmul dot_S512x1024_S1024x1024_S512x1024_1_0_0_1_n_n none
    (truncf .bf16 (concatenate S512x1024 1 [⟨S512x256, a⟩, ⟨S512x256, b⟩, ⟨S512x256, c⟩, ⟨S512x256, d⟩]
      concatenates_S512x256_S512x256_S512x256_S512x256_S512x1024_d1) bitsLt_bf16_f32)
    (shapeCast S1024x1024 w shapeCasts_S1024x1024_S1024x1024 : FVec Ideal S1024x1024 .bf16) (constant S512x1024 .f32 0x00000000#32))) transposes_S512x1024_p1_0_S1024x512

/-- The stored value is the tail of the four heads. -/
theorem tail_eq (h : FVec Ideal S512x1024 .f32) (a b c : FVec Ideal S512x256 .f32) (q : FVec Ideal S512x256 .bf16)
    (k v : Vec Ideal S1x256x256 .bf16) (w : Vec Ideal S1024x1024 .bf16) :
    k0_pay1 h a b c q k v w = tailV h a b c (lastV q k v) w := rfl

/-- The fourth head. -/
theorem head3_apply (q : FVec Ideal S512x1024 .f32) (g : Vec Ideal S1x256 .f32)
    (k v : Vec Ideal S1x256x256 .bf16) (r : Fin 512) (e : Fin 256) :
    lastV (k0_pay16 q g) k v (ix2 r e)
      = average (score (fun e => q (ix2 r (col 3 e))) (fun e => g (ix2 0 e)) (fun s e => k (ix3 0 s e)))
      (fun s => v (ix3 0 s e)) := by
  pointwise [lastV, k0_pay16, average, score, rms, Soft.weight, Soft.top, col]
  rw [init_eq]

/-- The tail at an index, for a row `o` the heads make up. -/
theorem tail_apply (h : FVec Ideal S512x1024 .f32) (a b c d : FVec Ideal S512x256 .f32) (w : Vec Ideal S1024x1024 .bf16)
    (r : Fin 512) (j : Fin 1024) (o : Fin 1024 → EReal) (ha : ∀ e, a (ix2 r e) = o (col 0 e)) (hb : ∀ e, b (ix2 r e) = o (col 1 e))
    (hc : ∀ e, c (ix2 r e) = o (col 2 e)) (hd : ∀ e, d (ix2 r e) = o (col 3 e)) :
    tailV h a b c d w (ix2 j r) = h (ix2 r j) + prod o (fun n j => w (ix2 n j)) j := by
  pointwise [tailV, prod]
  refine congrArg₂ (fun x y : EReal => x + y) rfl (Finset.sum_congr rfl fun n _ => ?_)
  refine congrArg₂ (fun x y : EReal => x * y) ?_ rfl
  by_cases h0 : (n : ℕ) < 256
  · rw [dif_pos h0]
    exact (ha _).trans (congrArg o (Fin.ext (by simp [col])))
  rw [dif_neg h0]
  by_cases h1 : (n : ℕ) - 256 < 256
  · rw [dif_pos h1]
    exact (hb _).trans (congrArg o (Fin.ext (by show 256 * 1 + ((n : ℕ) - 256) = n; omega)))
  rw [dif_neg h1]
  by_cases h2 : (n : ℕ) - 256 - 256 < 256
  · rw [dif_pos h2]
    exact (hc _).trans (congrArg o (Fin.ext (by show 256 * 2 + ((n : ℕ) - 256 - 256) = n; omega)))
  rw [dif_neg h2]
  exact (hd _).trans (congrArg o (Fin.ext (by show 256 * 3 + ((n : ℕ) - 256 - 256 - 256) = n; omega)))

/-- The residual rows of the block, after the mix. -/
abbrev hidden (x0 : Vec Ideal S1x512x1024 .f32) (x1 x2 : Vec Ideal S1x512x512 .f32) (x3 : Vec Ideal S512x512 .bf16)
    (x4 x5 x6 : Vec Ideal S1x512 .f32) (x7 x8 : Vec Ideal S512x1024 .bf16) (r : Fin 512) (j : Fin 1024) : EReal :=
  mixed (fun j => x0 (ix3 0 r j)) (fun k => x1 (ix3 0 r k)) (fun k => x2 (ix3 0 r k)) (fun k j => x3 (ix2 k j)) (fun j => x4 (ix2 0 j))
    (fun j => x5 (ix2 0 j)) (fun j => x6 (ix2 0 j)) (fun k j => x7 (ix2 k j)) (fun k j => x8 (ix2 k j)) j

/-- What the block stores: each token through the mix and the memory attention. -/
theorem out_apply (x0 : Vec Ideal S1x512x1024 .f32) (x1 x2 : Vec Ideal S1x512x512 .f32) (x3 : Vec Ideal S512x512 .bf16)
    (x4 x5 x6 : Vec Ideal S1x512 .f32) (x7 x8 : Vec Ideal S512x1024 .bf16) (x9 : Vec Ideal S1x1024 .f32)
    (x10 : Vec Ideal S1024x1024 .bf16) (x11 : Vec Ideal S1x256 .f32) (x12 x13 : Vec Ideal S1x256x1024 .bf16)
    (x14 : Vec Ideal S1024x1024 .bf16) (r : Fin 512) (j : Fin 1024) :
    out0_15 (F := Ideal) x0 x1 x2 x3 x4 x5 x6 x7 x8 x9 x10 x11 x12 x13 x14 (ix2 j r)
      = token (hidden x0 x1 x2 x3 x4 x5 x6 x7 x8 r) (fun j => x9 (ix2 0 j)) (fun k j => x10 (ix2 k j)) (fun e => x11 (ix2 0 e))
        (fun s n => x12 (ix3 0 s n)) (fun s n => x13 (ix3 0 s n)) (fun n j => x14 (ix2 n j)) j := by
  have hid : ∀ r j, k0_pay4 (k0_pay2 x2 x3 x4) (k0_pay3 x1 x5) x6 x0 x7 x8 (ix2 r j) = hidden x0 x1 x2 x3 x4 x5 x6 x7 x8 r j := by
    intro r j
    rw [mixed_apply]
    simp only [gated_apply, att_apply]
    rfl
  have que : ∀ r j, k0_pay6 (k0_pay5 (k0_pay2 x2 x3 x4) (k0_pay3 x1 x5) x6 x0 x7 x8 x9) x10 (ix2 r j)
      = prod (rms 0x44800000#32 (hidden x0 x1 x2 x3 x4 x5 x6 x7 x8 r) (fun j => x9 (ix2 0 j))) (fun k j => x10 (ix2 k j)) j := by
    intro r j
    rw [query_apply]
    simp only [normed_apply, hid]
  have d0 : ∀ (X : Vec Ideal S1x256x1024 .bf16) (s e : Fin 256), View.ld X r0_8 (ix3 0 s e) = X (ix3 0 s (col 0 e)) := fun X s e =>
    congrArg X (funext fun a => Fin.ext (by fin_cases a <;> simp [col, Rect.unit, View.emb]))
  have d1 : ∀ (X : Vec Ideal S1x256x1024 .bf16) (s e : Fin 256), View.ld X r0_9 (ix3 0 s e) = X (ix3 0 s (col 1 e)) := fun X s e =>
    congrArg X (funext fun a => Fin.ext (by fin_cases a <;> simp [col, Rect.unit, View.emb]))
  have d2 : ∀ (X : Vec Ideal S1x256x1024 .bf16) (s e : Fin 256), View.ld X r0_10 (ix3 0 s e) = X (ix3 0 s (col 2 e)) := fun X s e =>
    congrArg X (funext fun a => Fin.ext (by fin_cases a <;> simp [col, Rect.unit, View.emb]))
  have d3 : ∀ (X : Vec Ideal S1x256x1024 .bf16) (s e : Fin 256), View.ld X r0_11 (ix3 0 s e) = X (ix3 0 s (col 3 e)) := fun X s e =>
    congrArg X (funext fun a => Fin.ext (by fin_cases a <;> simp [col, Rect.unit, View.emb]))
  unfold_out out0_15
  have e0 : ∀ X : Vec Ideal S1x512x512 .f32, View.ld X r0_0 = X := fun X => View.ld_unit_lit _ X (by decide)
  have e1 : ∀ X : Vec Ideal S512x512 .bf16, View.ld X r0_1 = X := fun X => View.ld_unit_lit _ X (by decide)
  have e2 : ∀ X : Vec Ideal S1x512 .f32, View.ld X r0_2 = X := fun X => View.ld_unit_lit _ X (by decide)
  have e3 : ∀ X : Vec Ideal S1x512x1024 .f32, View.ld X r0_3 = X := fun X => View.ld_unit_lit _ X (by decide)
  have e4 : ∀ X : Vec Ideal S512x1024 .bf16, View.ld X r0_4 = X := fun X => View.ld_unit_lit _ X (by decide)
  have e5 : ∀ X : Vec Ideal S1x1024 .f32, View.ld X r0_5 = X := fun X => View.ld_unit_lit _ X (by decide)
  have e6 : ∀ X : Vec Ideal S1024x1024 .bf16, View.ld X r0_6 = X := fun X => View.ld_unit_lit _ X (by decide)
  have e7 : ∀ X : Vec Ideal S1x256 .f32, View.ld X r0_7 = X := fun X => View.ld_unit_lit _ X (by decide)
  simp only [e0, e1, e2, e3, e4, e5, e6, e7]
  rw [View.canon_cons_unit_lit _ _ _ (by decide), tail_eq]
  refine (tail_apply _ _ _ _ _ _ r j (fun n => average (score (fun e => prod (rms 0x44800000#32 (hidden x0 x1 x2 x3 x4 x5 x6 x7 x8 r) (fun j => x9 (ix2 0 j)))
      (fun k j => x10 (ix2 k j)) (col (head n) e)) (fun e => x11 (ix2 0 e)) (fun s e => x12 (ix3 0 s (col (head n) e))))
    (fun s => x13 (ix3 0 s n))) (fun e => ?_) (fun e => ?_) (fun e => ?_) (fun e => ?_)).trans ?_
  · rw [head0_apply, head_col]
    simp only [que]
    exact congrArg₂ average (congrArg (score _ _) (funext fun s => funext fun e => d0 x12 s e)) (funext fun s => d0 x13 s e)
  · rw [head1_apply, head_col]
    simp only [que]
    exact congrArg₂ average (congrArg (score _ _) (funext fun s => funext fun e => d1 x12 s e)) (funext fun s => d1 x13 s e)
  · rw [head2_apply, head_col]
    simp only [que]
    exact congrArg₂ average (congrArg (score _ _) (funext fun s => funext fun e => d2 x12 s e)) (funext fun s => d2 x13 s e)
  · rw [head3_apply, head_col]
    simp only [que]
    exact congrArg₂ average (congrArg (score _ _) (funext fun s => funext fun e => d3 x12 s e)) (funext fun s => d3 x13 s e)
  · rw [hid]
    rfl

end Cert.MixMemIdeal.Block
-- ==== Proof.Mix.Ref.lean ====
module

public import proofs.«01_k».proof.Proof.Gen.MixMemRefIdeal.Read
public import proofs.«01_k».proof.Proof.Rows
public import Idealize.ShloMosaic.Lib.Pipeline.ValueKit
public import Idealize.ShloMosaic.Lib.Pointwise

@[expose] public section

set_option maxRecDepth 16384

noncomputable section

/-! # The reference of the mix and the memory attention, read at an index -/

namespace Cert.MixMemRefIdeal.At

open Cert.MixMemRefIdeal Cert.MixMemRefIdeal.Read Cert.Rows Idealize.ShloMosaic Idealize.ShloMosaic.TcCoe Idealize.SL.Sem

theorem neg_inf : Ideal.ofBits FTy.f32 0xFF800000#32 = ⊥ := by simp [Ideal.ofBits, Ideal.ieee]

/-- The norm of the attention. -/
theorem att_at (a : S2x8192x512.Idx → EReal) (g : S512.Idx → EReal) (b : Fin 2) (l : Fin 8192) (j : Fin 512) :
    val_main_v31 (F := Ideal) a g (ix3 b l j) = rms 0x44000000#32 (fun k => a (ix3 b l k)) (fun k => g (ix1 k)) j := by
  pointwise [val_main_v31, val_main_v30, val_main_v29, val_main_v28, val_main_v27, val_main_v26, val_main_v25, val_main_v24, val_main_v23, val_main_v22, val_main_v21, val_main_v20, val_main_v19, val_main_cst_4, val_main_cst_5, val_main_cst_6, rms]

/-- The GELU. -/
theorem gelu_at (y : S2x8192x512.Idx → EReal) (b : Fin 2) (l : Fin 8192) (j : Fin 512) :
    val_main_v7 (F := Ideal) y (ix3 b l j) = gelu (y (ix3 b l j)) := by
  pointwise [val_main_v7, val_main_v6, val_main_v5, val_main_v4, val_main_v3, val_main_v2, val_main_v1, val_main_v0, val_main_cst, val_main_cst_0, val_main_cst_1, gelu]

/-- The gated unit. -/
theorem gated_at (y : S2x8192x512.Idx → EReal) (w : S512x512.Idx → EReal) (g : S512.Idx → EReal) (b : Fin 2) (l : Fin 8192) (j : Fin 512) :
    val_main_v18 (F := Ideal) y w g (ix3 b l j) = gated (fun k => y (ix3 b l k)) (fun k j => w (ix2 k j)) (fun k => g (ix1 k)) j := by
  have h := fun j => gelu_at y b l j
  unfold gated prod
  simp only [← h]
  unfold val_main_v18 val_main_v17 val_main_v16 val_main_v15 val_main_v14 val_main_v13 val_main_v12 val_main_v11 val_main_v10 val_main_v9 val_main_v8
  generalize val_main_v7 (F := Ideal) y = z
  pointwise [val_main_v10, val_main_v9, val_main_cst_2, val_main_cst_3, Ideal.logistic]

/-- The norm of the gated unit. -/
theorem ssm_at (y : S2x8192x512.Idx → EReal) (w : S512x512.Idx → EReal) (bg g : S512.Idx → EReal) (b : Fin 2) (l : Fin 8192) (j : Fin 512) :
    val_main_v44 (F := Ideal) y w bg g (ix3 b l j) = rms 0x44000000#32
      (gated (fun k => y (ix3 b l k)) (fun k j => w (ix2 k j)) (fun k => bg (ix1 k))) (fun k => g (ix1 k)) j := by
  have h : gated (fun k => y (ix3 b l k)) (fun k j => w (ix2 k j)) (fun k => bg (ix1 k)) = fun j => val_main_v18 (F := Ideal) y w bg (ix3 b l j) :=
    funext fun j => (gated_at y w bg b l j).symm
  rw [h]
  unfold val_main_v44 val_main_v43 val_main_v42 val_main_v41 val_main_v40 val_main_v39 val_main_v38 val_main_v37 val_main_v36 val_main_v35 val_main_v34 val_main_v33 val_main_v32
  generalize val_main_v18 (F := Ideal) y w bg = z
  pointwise [val_main_v44, val_main_v43, val_main_v42, val_main_v41, val_main_v40, val_main_v39, val_main_v38, val_main_v37, val_main_v36, val_main_v35, val_main_v34, val_main_v33, val_main_v32, val_main_cst_7, val_main_cst_8, val_main_cst_9, rms]

variable (x0 : S2x8192x1024.Idx → EReal) (x1 x2 : S2x8192x512.Idx → EReal) (x3 : S512x512.Idx → EReal) (x4 x5 x6 : S512.Idx → EReal)
  (x7 : S1024x1024.Idx → EReal) (x8 : S1024.Idx → EReal) (x9 : S1024x1024.Idx → EReal) (x10 : S256.Idx → EReal)
  (x11 x12 : S2x256x4x256.Idx → EReal) (x13 : S1024x1024.Idx → EReal) (b : Fin 2) (l : Fin 8192)

/-- The residual row after the mix, of the arrays the reference takes. -/
abbrev hid (j : Fin 1024) : EReal :=
  mixed (fun j => x0 (ix3 b l j)) (fun k => x1 (ix3 b l k)) (fun k => x2 (ix3 b l k)) (fun k j => x3 (ix2 k j)) (fun k => x4 (ix1 k))
    (fun k => x5 (ix1 k)) (fun k => x6 (ix1 k)) (fun k j => x7 (ix2 ⟨k, by omega⟩ j)) (fun k j => x7 (ix2 ⟨512 + k, by omega⟩ j)) j

/-- The two normed rows, one after the other. -/
theorem cat_at (n : Fin 1024) : val_main_v45 (F := Ideal) x1 x2 x3 x4 x5 x6 (ix3 b l n)
    = if h : (n : ℕ) < 512 then val_main_v31 (F := Ideal) x1 x5 (ix3 b l ⟨n, h⟩)
      else val_main_v44 (F := Ideal) x2 x3 x4 x6 (ix3 b l ⟨(n : ℕ) - 512, by omega⟩) := by
  unfold val_main_v45
  generalize val_main_v31 (F := Ideal) x1 x5 = u
  generalize val_main_v44 (F := Ideal) x2 x3 x4 x6 = v
  pointwise

/-- The residual after the mix. -/
theorem hid_at (j : Fin 1024) : val_main_v47 (F := Ideal) x0 x1 x2 x3 x4 x5 x6 x7 (ix3 b l j) = hid x0 x1 x2 x3 x4 x5 x6 x7 b l j := by
  have e : val_main_v47 (F := Ideal) x0 x1 x2 x3 x4 x5 x6 x7 (ix3 b l j)
      = x0 (ix3 b l j) + prod (fun n => val_main_v45 (F := Ideal) x1 x2 x3 x4 x5 x6 (ix3 b l n)) (fun n j => x7 (ix2 n j)) j := by
    unfold val_main_v47 val_main_v46
    generalize val_main_v45 (F := Ideal) x1 x2 x3 x4 x5 x6 = z
    pointwise [prod]
  rw [e, prod_halves, ← add_assoc]
  simp only [cat_at]
  unfold hid mixed
  refine congrArg₂ (fun x y : EReal => x + y) (congrArg₂ (fun x y : EReal => x + y) rfl ?_) ?_
  · refine congrArg (fun v => prod v _ j) (funext fun k => ?_)
    rw [dif_pos k.isLt]
    exact att_at x1 x5 b l k
  · refine congrArg (fun v => prod v _ j) (funext fun k => ?_)
    rw [dif_neg (by show ¬ 512 + (k : ℕ) < 512; omega)]
    refine Eq.trans (congrArg (fun t => val_main_v44 (F := Ideal) x2 x3 x4 x6 (ix3 b l t)) (Fin.ext ?_)) (ssm_at x2 x3 x4 x6 b l k)
    show 512 + (k : ℕ) - 512 = k
    omega

/-- The normed residual. -/
theorem normed_at (j : Fin 1024) : val_main_v60 (F := Ideal) x0 x1 x2 x3 x4 x5 x6 x7 x8 (ix3 b l j)
    = rms 0x44800000#32 (hid x0 x1 x2 x3 x4 x5 x6 x7 b l) (fun k => x8 (ix1 k)) j := by
  have h : hid x0 x1 x2 x3 x4 x5 x6 x7 b l = fun j => val_main_v47 (F := Ideal) x0 x1 x2 x3 x4 x5 x6 x7 (ix3 b l j) :=
    funext fun j => (hid_at x0 x1 x2 x3 x4 x5 x6 x7 b l j).symm
  rw [h]
  unfold val_main_v60 val_main_v59 val_main_v58 val_main_v57 val_main_v56 val_main_v55 val_main_v54 val_main_v53 val_main_v52 val_main_v51 val_main_v50 val_main_v49 val_main_v48
  generalize val_main_v47 (F := Ideal) x0 x1 x2 x3 x4 x5 x6 x7 = z
  pointwise [val_main_v59, val_main_v58, val_main_v57, val_main_v56, val_main_v55, val_main_v54, val_main_v53, val_main_v52, val_main_v51, val_main_cst_10, val_main_cst_11, val_main_cst_12, rms]

/-- The memory's queries. -/
theorem query_at (h : Fin 4) (e : Fin 256) : val_main_v62 (F := Ideal) x0 x1 x2 x3 x4 x5 x6 x7 x8 x9 (ix4 b l h e)
    = prod (rms 0x44800000#32 (hid x0 x1 x2 x3 x4 x5 x6 x7 b l) (fun k => x8 (ix1 k))) (fun k j => x9 (ix2 k j)) (col h e) := by
  have hn : rms 0x44800000#32 (hid x0 x1 x2 x3 x4 x5 x6 x7 b l) (fun k => x8 (ix1 k)) = fun j => val_main_v60 (F := Ideal) x0 x1 x2 x3 x4 x5 x6 x7 x8 (ix3 b l j) :=
    funext fun j => (normed_at x0 x1 x2 x3 x4 x5 x6 x7 x8 b l j).symm
  have e1 : ∀ j, val_main_v61 (F := Ideal) x0 x1 x2 x3 x4 x5 x6 x7 x8 x9 (ix3 b l j)
      = prod (fun j => val_main_v60 (F := Ideal) x0 x1 x2 x3 x4 x5 x6 x7 x8 (ix3 b l j)) (fun k j => x9 (ix2 k j)) j := by
    intro j
    unfold val_main_v61
    generalize val_main_v60 (F := Ideal) x0 x1 x2 x3 x4 x5 x6 x7 x8 = z
    pointwise [prod]
  rw [hn, ← e1]
  unfold val_main_v62
  generalize val_main_v61 (F := Ideal) x0 x1 x2 x3 x4 x5 x6 x7 x8 x9 = z
  pointwise [col]
  exact congrArg (fun t => z (ix3 b l t)) (Fin.ext (by show (h : ℕ) * 256 + e = 256 * h + e; omega))

/-- The normed queries. -/
theorem head_at (h : Fin 4) (e : Fin 256) : val_main_v75 (F := Ideal) x0 x1 x2 x3 x4 x5 x6 x7 x8 x9 x10 (ix4 b l h e)
    = rms 0x43800000#32 (fun e => prod (rms 0x44800000#32 (hid x0 x1 x2 x3 x4 x5 x6 x7 b l) (fun k => x8 (ix1 k))) (fun k j => x9 (ix2 k j)) (col h e))
      (fun e => x10 (ix1 e)) e := by
  have hq : (fun e => prod (rms 0x44800000#32 (hid x0 x1 x2 x3 x4 x5 x6 x7 b l) (fun k => x8 (ix1 k))) (fun k j => x9 (ix2 k j)) (col h e))
      = fun e => val_main_v62 (F := Ideal) x0 x1 x2 x3 x4 x5 x6 x7 x8 x9 (ix4 b l h e) := funext fun e => (query_at x0 x1 x2 x3 x4 x5 x6 x7 x8 x9 b l h e).symm
  rw [hq]
  unfold val_main_v75 val_main_v74 val_main_v73 val_main_v72 val_main_v71 val_main_v70 val_main_v69 val_main_v68 val_main_v67 val_main_v66 val_main_v65 val_main_v64 val_main_v63
  generalize val_main_v62 (F := Ideal) x0 x1 x2 x3 x4 x5 x6 x7 x8 x9 = z
  pointwise [val_main_v74, val_main_v73, val_main_v72, val_main_v71, val_main_v70, val_main_v69, val_main_v68, val_main_v67, val_main_v66, val_main_cst_13, val_main_cst_14, val_main_cst_15, rms]

/-- The scores of a head against the memory, scaled after the product. -/
abbrev refScore (h : Fin 4) (s : Fin 256) : EReal :=
  (∑ e, val_main_v75 (F := Ideal) x0 x1 x2 x3 x4 x5 x6 x7 x8 x9 x10 (ix4 b l h e) * x11 (ix4 b s h e)) * Ideal.ofBits .f32 0x3D800000#32

theorem score_at (h : Fin 4) (s : Fin 256) : val_main_v78 (F := Ideal) x0 x1 x2 x3 x4 x5 x6 x7 x8 x9 x10 x11 (ix4 b h l s) = refScore x0 x1 x2 x3 x4 x5 x6 x7 x8 x9 x10 x11 b l h s := by
  unfold refScore val_main_v78 val_main_v76
  generalize val_main_v75 (F := Ideal) x0 x1 x2 x3 x4 x5 x6 x7 x8 x9 x10 = z
  pointwise [val_main_v77, val_main_cst_16]

theorem max_host (hr : S2x4x8192x256.ReducesTo [3] S2x4x8192) (hu : 0 < S_.numel) (y : FVec Ideal S2x4x8192x256 .f32) (b : Fin 2)
    (h : Fin 4) (l : Fin 8192) :
    Host.reduce FloatOps.maximumf y (val_main_cst_17 (F := Ideal)) hr hu (ix3 b h l) = Soft.top (fun s => y (ix4 b h l s)) := by
  unfold Soft.top
  pointwise [val_main_cst_17]
  rw [neg_inf]

theorem top_at (h : Fin 4) : val_main_v79 (F := Ideal) x0 x1 x2 x3 x4 x5 x6 x7 x8 x9 x10 x11 (ix3 b h l)
    = Soft.top (fun s => val_main_v78 (F := Ideal) x0 x1 x2 x3 x4 x5 x6 x7 x8 x9 x10 x11 (ix4 b h l s)) := by
  unfold val_main_v79
  generalize val_main_v78 (F := Ideal) x0 x1 x2 x3 x4 x5 x6 x7 x8 x9 x10 x11 = y
  exact max_host _ _ y b h l

theorem shift_at (h : Fin 4) (s : Fin 256) : val_main_v83 (F := Ideal) x0 x1 x2 x3 x4 x5 x6 x7 x8 x9 x10 x11 (ix4 b h l s)
    = val_main_v79 (F := Ideal) x0 x1 x2 x3 x4 x5 x6 x7 x8 x9 x10 x11 (ix3 b h l) := by
  rw [val_main_v83_apply, val_main_v82_apply, val_main_v81_apply, val_main_v80_apply, val_main_cst_18_apply]
  have hi : idx_main_v82 (idx_main_v83 (ix4 b h l s)) = ix3 b h l := by
    funext a
    match a with
    | ⟨0, _⟩ => rfl
    | ⟨1, _⟩ => rfl
    | ⟨2, _⟩ => rfl
  rw [hi]
  generalize val_main_v79 (F := Ideal) x0 x1 x2 x3 x4 x5 x6 x7 x8 x9 x10 x11 (ix3 b h l) = m
  exact (congrArg (fun x : EReal => max x m) neg_inf).trans (max_eq_right bot_le)

theorem weight_at (h : Fin 4) (s : Fin 256) : val_main_v85 (F := Ideal) x0 x1 x2 x3 x4 x5 x6 x7 x8 x9 x10 x11 (ix4 b h l s)
    = Soft.weight (fun s => val_main_v78 (F := Ideal) x0 x1 x2 x3 x4 x5 x6 x7 x8 x9 x10 x11 (ix4 b h l s)) s := by
  have hm := (shift_at x0 x1 x2 x3 x4 x5 x6 x7 x8 x9 x10 x11 b l h s).trans (top_at x0 x1 x2 x3 x4 x5 x6 x7 x8 x9 x10 x11 b l h)
  rw [val_main_v85_apply, val_main_v84_apply, hm]
  generalize val_main_v78 (F := Ideal) x0 x1 x2 x3 x4 x5 x6 x7 x8 x9 x10 x11 = y
  unfold Soft.weight
  generalize Soft.top (fun s => y (ix4 b h l s)) = m
  rfl

theorem quot_at (h : Fin 4) (s : Fin 256) : val_main_v89 (F := Ideal) x0 x1 x2 x3 x4 x5 x6 x7 x8 x9 x10 x11 (ix4 b h l s)
    = Ideal.div (val_main_v85 (F := Ideal) x0 x1 x2 x3 x4 x5 x6 x7 x8 x9 x10 x11 (ix4 b h l s)) (∑ s, val_main_v85 (F := Ideal) x0 x1 x2 x3 x4 x5 x6 x7 x8 x9 x10 x11 (ix4 b h l s)) := by
  unfold val_main_v89 val_main_v88 val_main_v87 val_main_v86
  generalize val_main_v85 (F := Ideal) x0 x1 x2 x3 x4 x5 x6 x7 x8 x9 x10 x11 = y
  pointwise [val_main_cst_19]

theorem avg_at (h : Fin 4) (e : Fin 256) : val_main_v90 (F := Ideal) x0 x1 x2 x3 x4 x5 x6 x7 x8 x9 x10 x11 x12 (ix4 b h e l)
    = ∑ s : Fin 256, x12 (ix4 b s h e) * val_main_v89 (F := Ideal) x0 x1 x2 x3 x4 x5 x6 x7 x8 x9 x10 x11 (ix4 b h l s) := by
  unfold val_main_v90
  generalize val_main_v89 (F := Ideal) x0 x1 x2 x3 x4 x5 x6 x7 x8 x9 x10 x11 = z
  pointwise

/-- The average of the values of one head, the weights divided first. -/
theorem out_at (h : Fin 4) (e : Fin 256) : val_main_v90 (F := Ideal) x0 x1 x2 x3 x4 x5 x6 x7 x8 x9 x10 x11 x12 (ix4 b h e l)
    = ∑ s : Fin 256, x12 (ix4 b s h e) * Ideal.div (Soft.weight (refScore x0 x1 x2 x3 x4 x5 x6 x7 x8 x9 x10 x11 b l h) s) (∑ s, Soft.weight (refScore x0 x1 x2 x3 x4 x5 x6 x7 x8 x9 x10 x11 b l h) s) := by
  have hs : refScore x0 x1 x2 x3 x4 x5 x6 x7 x8 x9 x10 x11 b l h = fun s => val_main_v78 (F := Ideal) x0 x1 x2 x3 x4 x5 x6 x7 x8 x9 x10 x11 (ix4 b h l s) :=
    funext fun s => (score_at x0 x1 x2 x3 x4 x5 x6 x7 x8 x9 x10 x11 b l h s).symm
  rw [avg_at, hs]
  simp only [quot_at, weight_at]

/-- The heads side by side. -/
theorem heads_at (n : Fin 1024) : val_main_v92 (F := Ideal) x0 x1 x2 x3 x4 x5 x6 x7 x8 x9 x10 x11 x12 (ix3 b l n)
    = val_main_v90 (F := Ideal) x0 x1 x2 x3 x4 x5 x6 x7 x8 x9 x10 x11 x12 (ix4 b (head n) ⟨(n : ℕ) % 256, Nat.mod_lt _ (by decide)⟩ l) := by
  unfold val_main_v92 val_main_v91
  generalize val_main_v90 (F := Ideal) x0 x1 x2 x3 x4 x5 x6 x7 x8 x9 x10 x11 x12 = z
  pointwise [head]

/-- The result of the reference. -/
theorem result_at (j : Fin 1024) (n : Fin 16384) (hn : (n : ℕ) = 8192 * b + l) : val_main_v96 (F := Ideal) x0 x1 x2 x3 x4 x5 x6 x7 x8 x9 x10 x11 x12 x13 (ix2 j n)
    = hid x0 x1 x2 x3 x4 x5 x6 x7 b l j + prod (fun c => val_main_v92 (F := Ideal) x0 x1 x2 x3 x4 x5 x6 x7 x8 x9 x10 x11 x12 (ix3 b l c)) (fun n j => x13 (ix2 n j)) j := by
  rw [← hid_at]
  have e : val_main_v96 (F := Ideal) x0 x1 x2 x3 x4 x5 x6 x7 x8 x9 x10 x11 x12 x13 (ix2 j n) = val_main_v94 (F := Ideal) x0 x1 x2 x3 x4 x5 x6 x7 x8 x9 x10 x11 x12 x13 (ix3 b l j) := by
    rw [val_main_v96_apply, val_main_v95_apply]
    refine congrArg _ ?_
    funext a
    match a with
    | ⟨0, _⟩ => exact Fin.ext (show ((n : ℕ) * 1024 + j) / 8388608 = b by omega)
    | ⟨1, _⟩ => exact Fin.ext (show ((n : ℕ) * 1024 + j) / 1024 % 8192 = l by omega)
    | ⟨2, _⟩ => exact Fin.ext (show ((n : ℕ) * 1024 + j) % 1024 = j by omega)
  rw [e]
  unfold val_main_v94 val_main_v93
  generalize val_main_v92 (F := Ideal) x0 x1 x2 x3 x4 x5 x6 x7 x8 x9 x10 x11 x12 = z
  generalize val_main_v47 (F := Ideal) x0 x1 x2 x3 x4 x5 x6 x7 = h
  pointwise [prod]

end Cert.MixMemRefIdeal.At
-- ==== Proof.Mix.Equation.lean ====
module

public import proofs.«01_k».proof.Proof.Mix.Ref

@[expose] public section

set_option maxRecDepth 16384

noncomputable section

/-! # A token through the memory attention is the reference's -/

namespace Cert.MixMemRefIdeal.At

open Cert.MixMemRefIdeal Cert.MixMemRefIdeal.Read Cert.Rows Idealize.ShloMosaic Idealize.ShloMosaic.TcCoe Idealize.SL.Sem

variable (x0 : S2x8192x1024.Idx → EReal) (x1 x2 : S2x8192x512.Idx → EReal) (x3 : S512x512.Idx → EReal) (x4 x5 x6 : S512.Idx → EReal)
  (x7 : S1024x1024.Idx → EReal) (x8 : S1024.Idx → EReal) (x9 : S1024x1024.Idx → EReal) (x10 : S256.Idx → EReal)
  (x11 x12 : S2x256x4x256.Idx → EReal) (x13 : S1024x1024.Idx → EReal) (b : Fin 2) (l : Fin 8192)

/-- The memory's rows with the heads side by side. -/
def flat (x : S2x256x4x256.Idx → EReal) (b : Fin 2) (s : Fin 256) (n : Fin 1024) : EReal :=
  x (ix4 b s (head n) ⟨(n : ℕ) % 256, Nat.mod_lt _ (by decide)⟩)

theorem flat_col (x : S2x256x4x256.Idx → EReal) (s : Fin 256) (h : Fin 4) (e : Fin 256) : flat x b s (col h e) = x (ix4 b s h e) := by
  unfold flat
  rw [head_col]
  exact congrArg (fun t => x (ix4 b s h t)) (Fin.ext (by show (256 * (h : ℕ) + e) % 256 = e; omega))

/-- The scale is a sixteenth. -/
theorem scale_real : Ideal.ofBits FTy.f32 0x3D800000#32 = ((1 / 16 : ℝ) : EReal) := by
  simp [Ideal.ofBits, Ideal.ieee]
  rw [← EReal.coe_mul]
  norm_num

theorem len_real : Ideal.ofBits FTy.f32 0x43800000#32 = ((256 : ℝ) : EReal) := by
  simp [Ideal.ofBits, Ideal.ieee]
  rw [← EReal.coe_mul]
  norm_num

/-- Scaling the queries is scaling the scores. -/
theorem score_eq (h : Fin 4) (s : Fin 256) :
    score (fun e => prod (rms 0x44800000#32 (hid x0 x1 x2 x3 x4 x5 x6 x7 b l) (fun k => x8 (ix1 k))) (fun k j => x9 (ix2 k j)) (col h e))
      (fun e => x10 (ix1 e)) (fun s e => flat x11 b s (col h e)) s = refScore x0 x1 x2 x3 x4 x5 x6 x7 x8 x9 x10 x11 b l h s := by
  unfold score refScore
  rw [scale_real, Soft.sum_mul_right _ _ _ (by norm_num)]
  refine Finset.sum_congr rfl fun e _ => ?_
  beta_reduce
  rw [head_at, flat_col, mul_right_comm]

/-- With finite gains and finite keys a score is real. -/
theorem score_real (hg : ∀ i, ∃ r : ℝ, x10 i = (r : EReal)) (hk : ∀ i, ∃ r : ℝ, x11 i = (r : EReal)) (h : Fin 4) (s : Fin 256) :
    ∃ r : ℝ, refScore x0 x1 x2 x3 x4 x5 x6 x7 x8 x9 x10 x11 b l h s = (r : EReal) := by
  have hp := prod_real (fun e => val_main_v75 (F := Ideal) x0 x1 x2 x3 x4 x5 x6 x7 x8 x9 x10 (ix4 b l h e)) (fun e (_ : Fin 1) => x11 (ix4 b s h e)) 0
    (fun e => by rw [head_at]; exact rms_real _ 256 len_real (by norm_num) _ _ e (hg _)) (fun e => hk _)
  obtain ⟨r, hr⟩ := hp
  refine ⟨r * (1 / 16), ?_⟩
  unfold refScore
  rw [scale_real, EReal.coe_mul, ← hr]
  rfl

/-- The kernel's token, on the arrays the reference takes, is the reference's result. -/
theorem token_eq (hg : ∀ i, ∃ r : ℝ, x10 i = (r : EReal)) (hk : ∀ i, ∃ r : ℝ, x11 i = (r : EReal)) (j : Fin 1024) (n : Fin 16384)
    (hn : (n : ℕ) = 8192 * b + l) :
    token (hid x0 x1 x2 x3 x4 x5 x6 x7 b l) (fun k => x8 (ix1 k)) (fun k j => x9 (ix2 k j)) (fun e => x10 (ix1 e)) (flat x11 b) (flat x12 b)
      (fun n j => x13 (ix2 n j)) j = val_main_v96 (F := Ideal) x0 x1 x2 x3 x4 x5 x6 x7 x8 x9 x10 x11 x12 x13 (ix2 j n) := by
  rw [result_at x0 x1 x2 x3 x4 x5 x6 x7 x8 x9 x10 x11 x12 x13 b l j n hn]
  unfold token
  refine congrArg (fun v => hid x0 x1 x2 x3 x4 x5 x6 x7 b l j + prod v (fun n j => x13 (ix2 n j)) j) (funext fun c => ?_)
  rw [heads_at, out_at]
  have hs := funext (score_eq x0 x1 x2 x3 x4 x5 x6 x7 x8 x9 x10 x11 b l (head c))
  rw [hs]
  unfold average
  refine (Soft.div_sum _ _ (fun s => ?_) ⟨0, ?_⟩).trans rfl
  · obtain ⟨r, hr⟩ := score_real x0 x1 x2 x3 x4 x5 x6 x7 x8 x9 x10 x11 b l hg hk (head c) s
    rw [hr]
    exact EReal.coe_ne_top r
  · obtain ⟨r, hr⟩ := score_real x0 x1 x2 x3 x4 x5 x6 x7 x8 x9 x10 x11 b l hg hk (head c) 0
    rw [hr]
    exact EReal.coe_ne_bot r

end Cert.MixMemRefIdeal.At
-- ==== Proof.Mix.Final.lean ====
module

public import proofs.«01_k».proof.Proof.Mix.Block
public import proofs.«01_k».proof.Proof.Mix.Equation
public import Idealize.ShloMosaic.Lib.Claim
public import Idealize.ShloMosaic.Lib.KernelVsHost

@[expose] public section

set_option maxRecDepth 16384

noncomputable section

/-! # The array the mix and memory attention kernel leaves -/

namespace Cert.MixMemIdeal.Final

open Cert.MixMemIdeal Cert.MixMemIdeal.Gen Cert.MixMemIdeal.Block Cert.Rows Idealize.ShloMosaic Idealize.ShloMosaic.TcCoe Idealize.SL.Sem
open Idealize.ShloMosaic.Pipeline (Dat)

variable (m : (ℓ : Loc nD τ sig) → Buf (Elt Ideal) ℓ)

/-- Which block of its array each window holds at each point of the grid. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 16, 0, 0]
    ∧ win0_13.index t = ![t.val / 16, 0, 0] ∧ win0_14.index t = ![0, 0] ∧ win0_15.index t = ![0, t.val] :=
  (by decide +kernel : ∀ t : Fin grid0.N, _)

theorem N_le (t : Fin cfg0.N) : t.val < 32 := t.isLt

/-- The batch entry of a grid point. -/
def bat (t : Fin cfg0.N) : Fin 2 := ⟨t.val / 16, by have := N_le t; omega⟩

/-- The token of a grid point's row. -/
def tok (t : Fin cfg0.N) (r : Fin 512) : Fin 8192 := ⟨512 * (t.val % 16) + r, by omega⟩

theorem x_blk (c : Dev nD) (t : Fin cfg0.N) (r : Fin 512) (d : Fin 1024) :
    iblk m c 0 t (ix3 0 r d) = V m c main_arg0 (ix3 (bat t) (tok t r) d) := by
  blk_point [iblk, idx t, bat, tok]

theorem att_blk (c : Dev nD) (t : Fin cfg0.N) (r d : Fin 512) :
    iblk m c 1 t (ix3 0 r d) = V m c main_arg1 (ix3 (bat t) (tok t r) d) := by
  blk_point [iblk, idx t, bat, tok]

theorem y_blk (c : Dev nD) (t : Fin cfg0.N) (r d : Fin 512) :
    iblk m c 2 t (ix3 0 r d) = V m c main_arg2 (ix3 (bat t) (tok t r) d) := by
  blk_point [iblk, idx t, bat, tok]

theorem blk3 (c : Dev nD) (t : Fin cfg0.N) : iblk m c 3 t = V m c main_v1 := by
  funext y
  blk_point [iblk, idx t]

theorem blk4 (c : Dev nD) (t : Fin cfg0.N) : iblk m c 4 t = V m c main_v2 := by
  funext y
  blk_point [iblk, idx t]

theorem blk5 (c : Dev nD) (t : Fin cfg0.N) : iblk m c 5 t = V m c main_v3 := by
  funext y
  blk_point [iblk, idx t]

theorem blk6 (c : Dev nD) (t : Fin cfg0.N) : iblk m c 6 t = V m c main_v4 := by
  funext y
  blk_point [iblk, idx t]

theorem blk7 (c : Dev nD) (t : Fin cfg0.N) : iblk m c 7 t = V m c main_v5 := by
  funext y
  blk_point [iblk, idx t]

theorem blk8 (c : Dev nD) (t : Fin cfg0.N) : iblk m c 8 t = V m c main_v6 := by
  funext y
  blk_point [iblk, idx t]

theorem blk9 (c : Dev nD) (t : Fin cfg0.N) : iblk m c 9 t = V m c main_v7 := by
  funext y
  blk_point [iblk, idx t]

theorem blk10 (c : Dev nD) (t : Fin cfg0.N) : iblk m c 10 t = V m c main_v8 := by
  funext y
  blk_point [iblk, idx t]

theorem blk11 (c : Dev nD) (t : Fin cfg0.N) : iblk m c 11 t = V m c main_v9 := by
  funext y
  blk_point [iblk, idx t]

theorem k_blk (c : Dev nD) (t : Fin cfg0.N) (s : Fin 256) (n : Fin 1024) :
    iblk m c 12 t (ix3 0 s n) = V m c main_v11 (ix3 (bat t) s n) := by
  blk_point [iblk, idx t, bat]

theorem v_blk (c : Dev nD) (t : Fin cfg0.N) (s : Fin 256) (n : Fin 1024) :
    iblk m c 13 t (ix3 0 s n) = V m c main_v13 (ix3 (bat t) s n) := by
  blk_point [iblk, idx t, bat]

theorem blk14 (c : Dev nD) (t : Fin cfg0.N) : iblk m c 14 t = V m c main_v14 := by
  funext y
  blk_point [iblk, idx t]

/-! ## What the host prepares -/

theorem v1_at (c : Dev nD) (k j : Fin 512) : V m c main_v1 (ix2 k j) = m (c.tc.loc main_arg3) (ix2 k j) := by
  have e : V m c main_v1 = (m (c.tc.loc main_arg3) : FVec Ideal S512x512 .f32) := by
    unfold V hostOps0
    after_results
    rfl
  rw [e]

theorem v2_at (c : Dev nD) (j : Fin 512) : V m c main_v2 (ix2 0 j) = m (c.tc.loc main_arg4) (ix1 j) := by
  have e : V m c main_v2 = shapeCast S1x512 (m (c.tc.loc main_arg4) : FVec Ideal S512 .f32) shapeCasts_S512_S1x512 := by
    unfold V hostOps0
    after_results
    rfl
  rw [e]
  pointwise

theorem v3_at (c : Dev nD) (j : Fin 512) : V m c main_v3 (ix2 0 j) = m (c.tc.loc main_arg5) (ix1 j) := by
  have e : V m c main_v3 = shapeCast S1x512 (m (c.tc.loc main_arg5) : FVec Ideal S512 .f32) shapeCasts_S512_S1x512 := by
    unfold V hostOps0
    after_results
    rfl
  rw [e]
  pointwise

theorem v4_at (c : Dev nD) (j : Fin 512) : V m c main_v4 (ix2 0 j) = m (c.tc.loc main_arg6) (ix1 j) := by
  have e : V m c main_v4 = shapeCast S1x512 (m (c.tc.loc main_arg6) : FVec Ideal S512 .f32) shapeCasts_S512_S1x512 := by
    unfold V hostOps0
    after_results
    rfl
  rw [e]
  pointwise

theorem v7_at (c : Dev nD) (j : Fin 1024) : V m c main_v7 (ix2 0 j) = m (c.tc.loc main_arg8) (ix1 j) := by
  have e : V m c main_v7 = shapeCast S1x1024 (m (c.tc.loc main_arg8) : FVec Ideal S1024 .f32) shapeCasts_S1024_S1x1024 := by
    unfold V hostOps0
    after_results
    rfl
  rw [e]
  pointwise

theorem v9_at (c : Dev nD) (j : Fin 256) : V m c main_v9 (ix2 0 j) = m (c.tc.loc main_arg10) (ix1 j) := by
  have e : V m c main_v9 = shapeCast S1x256 (m (c.tc.loc main_arg10) : FVec Ideal S256 .f32) shapeCasts_S256_S1x256 := by
    unfold V hostOps0
    after_results
    rfl
  rw [e]
  pointwise

theorem v8_at (c : Dev nD) (k j : Fin 1024) : V m c main_v8 (ix2 k j) = m (c.tc.loc main_arg9) (ix2 k j) := by
  have e : V m c main_v8 = (m (c.tc.loc main_arg9) : FVec Ideal S1024x1024 .f32) := by
    unfold V hostOps0
    after_results
    rfl
  rw [e]

theorem v14_at (c : Dev nD) (k j : Fin 1024) : V m c main_v14 (ix2 k j) = m (c.tc.loc main_arg13) (ix2 k j) := by
  have e : V m c main_v14 = (m (c.tc.loc main_arg13) : FVec Ideal S1024x1024 .f32) := by
    unfold V hostOps0
    after_results
    rfl
  rw [e]

theorem v5_at (c : Dev nD) (k : Fin 512) (j : Fin 1024) : V m c main_v5 (ix2 k j) = m (c.tc.loc main_arg7) (ix2 ⟨k, by omega⟩ j) := by
  have e : V m c main_v5 = extractStridedSlice S512x1024 ![0, 0] (m (c.tc.loc main_arg7) : FVec Ideal S1024x1024 .f32)
      slices_S1024x1024_S512x1024_0_0 := by
    unfold V hostOps0
    after_results
    rfl
  rw [e]
  pointwise

theorem v6_at (c : Dev nD) (k : Fin 512) (j : Fin 1024) : V m c main_v6 (ix2 k j) = m (c.tc.loc main_arg7) (ix2 ⟨512 + k, by omega⟩ j) := by
  have e : V m c main_v6 = extractStridedSlice S512x1024 ![512, 0] (m (c.tc.loc main_arg7) : FVec Ideal S1024x1024 .f32)
      slices_S1024x1024_S512x1024_512_0 := by
    unfold V hostOps0
    after_results
    rfl
  rw [e]
  pointwise

theorem v11_at (c : Dev nD) (b : Fin 2) (s : Fin 256) (n : Fin 1024) :
    V m c main_v11 (ix3 b s n) = Cert.MixMemRefIdeal.At.flat (m (c.tc.loc main_arg11)) b s n := by
  have e : V m c main_v11 = shapeCast S2x256x1024 (m (c.tc.loc main_arg11) : FVec Ideal S2x256x4x256 .f32)
      shapeCasts_S2x256x4x256_S2x256x1024 := by
    unfold V hostOps0
    after_results
    rfl
  rw [e]
  pointwise [Cert.MixMemRefIdeal.At.flat, head]

theorem v13_at (c : Dev nD) (b : Fin 2) (s : Fin 256) (n : Fin 1024) :
    V m c main_v13 (ix3 b s n) = Cert.MixMemRefIdeal.At.flat (m (c.tc.loc main_arg12)) b s n := by
  have e : V m c main_v13 = shapeCast S2x256x1024 (m (c.tc.loc main_arg12) : FVec Ideal S2x256x4x256 .f32)
      shapeCasts_S2x256x4x256_S2x256x1024 := by
    unfold V hostOps0
    after_results
    rfl
  rw [e]
  pointwise [Cert.MixMemRefIdeal.At.flat, head]

/-! ## The array after the run -/

/-- What a grid point's body leaves at an index of its block. -/
theorem out_token (c : Dev nD) (t : Fin cfg0.N) (r : Fin 512) (j : Fin 1024) :
    out0_15 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 j r)
      = token (Cert.MixMemRefIdeal.At.hid (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) (bat t) (tok t r))
        (fun k => m (c.tc.loc main_arg8) (ix1 k)) (fun k j => m (c.tc.loc main_arg9) (ix2 k j)) (fun e => m (c.tc.loc main_arg10) (ix1 e))
        (Cert.MixMemRefIdeal.At.flat (m (c.tc.loc main_arg11)) (bat t)) (Cert.MixMemRefIdeal.At.flat (m (c.tc.loc main_arg12)) (bat t))
        (fun n j => m (c.tc.loc main_arg13) (ix2 n j)) j := by
  rw [out_apply]
  refine token_congr (funext fun j => mixed_congr (funext fun j => (x_blk m c t r j).trans (congrFun (V_main_arg0 m c) _))
      (funext fun k => (att_blk m c t r k).trans (congrFun (V_main_arg1 m c) _))
      (funext fun k => (y_blk m c t r k).trans (congrFun (V_main_arg2 m c) _))
      (funext fun k => funext fun j => (congrFun (blk3 m c t) _).trans (v1_at m c k j))
      (funext fun j => (congrFun (blk4 m c t) _).trans (v2_at m c j)) (funext fun j => (congrFun (blk5 m c t) _).trans (v3_at m c j))
      (funext fun j => (congrFun (blk6 m c t) _).trans (v4_at m c j))
      (funext fun k => funext fun j => (congrFun (blk7 m c t) _).trans (v5_at m c k j))
      (funext fun k => funext fun j => (congrFun (blk8 m c t) _).trans (v6_at m c k j)) j)
    (funext fun j => (congrFun (blk9 m c t) _).trans (v7_at m c j))
    (funext fun k => funext fun j => (congrFun (blk10 m c t) _).trans (v8_at m c k j))
    (funext fun j => (congrFun (blk11 m c t) _).trans (v9_at m c j))
    (funext fun s => funext fun n => (k_blk m c t s n).trans (v11_at m c _ s n))
    (funext fun s => funext fun n => (v_blk m c t s n).trans (v13_at m c _ s n))
    (funext fun k => funext fun j => (congrFun (blk14 m c t) _).trans (v14_at m c k j)) j

theorem out_emb (t : Fin cfg0.N) (y : S1024x512.Idx) : (win0_15.blk t).view.emb y
    = ix2 (⟨(y 0).val, (y 0).isLt⟩ : Fin 1024)
      (⟨512 * t.val + (y 1).val, by have h : (y 1).val < 512 := (y 1).isLt; have := N_le t; omega⟩ : Fin 16384) := by
  have hi := (idx t).2.2.2.2.2.2.2.2.2.2.2.2.2.2.2
  blk_ext [hi]

/-- The array after the run: every token is the reference's. -/
theorem final (c : Dev nD) (hg : ∀ i, ∃ r : ℝ, m (c.tc.loc main_arg10) i = (r : EReal))
    (hk : ∀ i, ∃ r : ℝ, m (c.tc.loc main_arg11) i = (r : EReal)) :
    (dats m 0 c).arrAt 15 (cfgs 0).N = fun i : S1024x16384.Idx =>
      Cert.MixMemRefIdeal.Read.val_main_v96 (F := Ideal) (m (c.tc.loc main_arg0)) (m (c.tc.loc main_arg1)) (m (c.tc.loc main_arg2))
        (m (c.tc.loc main_arg3)) (m (c.tc.loc main_arg4)) (m (c.tc.loc main_arg5)) (m (c.tc.loc main_arg6)) (m (c.tc.loc main_arg7))
        (m (c.tc.loc main_arg8)) (m (c.tc.loc main_arg9)) (m (c.tc.loc main_arg10)) (m (c.tc.loc main_arg11)) (m (c.tc.loc main_arg12))
        (m (c.tc.loc main_arg13)) i := by
  refine (dats m 0 c).arrAt_eq_of_covers 15 _ (by decide +kernel) fun t _ y => ?_
  blk_simp
  rw [after0_15]
  have ht := N_le t
  have h1 : (y 1).val < 512 := (y 1).isLt
  have hy : y = ix2 (⟨(y 0).val, (y 0).isLt⟩ : Fin 1024) (⟨(y 1).val, h1⟩ : Fin 512) := by
    funext a
    match a with
    | ⟨0, _⟩ => rfl
    | ⟨1, _⟩ => rfl
  rw [out_emb t y]
  refine (congrArg _ hy).trans ((out_token m c t _ _).trans ?_)
  exact Cert.MixMemRefIdeal.At.token_eq _ _ _ _ _ _ _ _ _ _ _ _ _ _ (bat t) (tok t ⟨(y 1).val, h1⟩) hg hk _ _
    (by simp only [bat, tok]; omega)

end Cert.MixMemIdeal.Final
-- ==== Proof.Mix.Claims.lean ====
module

public import proofs.«01_k».proof.Defs
public import proofs.«01_k».proof.Proof.Gen.Pre_finite_mix
public import proofs.«01_k».proof.Proof.Gen.MixMemIdeal.Value
public import proofs.«01_k».proof.Proof.Gen.MixMemRefIdeal.Run
public import proofs.«01_k».proof.Proof.Gen.MixMemRefIdeal.Read
public import proofs.«01_k».proof.Proof.Finite
public import proofs.«01_k».proof.Proof.Mix.Final

@[expose] public section

noncomputable section

/-! # The claims about the mix and the memory attention -/

namespace Cert.Proof

open Idealize.ShloMosaic Idealize.SL.Sem

/-- The reference runs and leaves its arguments. -/
theorem mix_ref_frame : quiescent_MixMemRefIdeal := by
  intro m ρ _
  exact (θ_run Cert.MixMemRefIdeal.defs _ _).mono
    (fun r h => ⟨fun c => (h c).2, sem_eq_zero_of_no_sems (by decide) r.2⟩)
    (Cert.MixMemRefIdeal.Value.run m ρ)

/-- The same under the precondition. -/
theorem mix_ref_frame_pre : quiescent_MixMemRefIdeal_pre_finite_mix :=
  fun m ρ _ => mix_ref_frame m ρ trivial

/-- The kernel's array is the reference's, for finite gains of the queries and finite memory keys. -/
theorem mix_algebraic : algebraic_MixMemIdeal_MixMemRefIdeal_pre_finite_mix := by
  pair_intro
  · run_from Cert.MixMemIdeal.Value.run_blocks m g
  · run_from Cert.MixMemRefIdeal.Value.run m' g'
    rw [← (hagree c).2.2.2.2.2.2.2.2.2.2.2.2.1, ← (hagree c).2.2.2.2.2.2.2.2.2.2.2.2.2]
    refine (Cert.MixMemRefIdeal.Read.val_main_v96_eq (StableHlo.launchContents m' c)).trans ?_
    change Cert.MixMemRefIdeal.Read.val_main_v96 (F := Ideal) (m' (c.tc.loc Cert.MixMemRefIdeal.main_arg0)) (m' (c.tc.loc Cert.MixMemRefIdeal.main_arg1)) (m' (c.tc.loc Cert.MixMemRefIdeal.main_arg2)) (m' (c.tc.loc Cert.MixMemRefIdeal.main_arg3)) (m' (c.tc.loc Cert.MixMemRefIdeal.main_arg4)) (m' (c.tc.loc Cert.MixMemRefIdeal.main_arg5)) (m' (c.tc.loc Cert.MixMemRefIdeal.main_arg6)) (m' (c.tc.loc Cert.MixMemRefIdeal.main_arg7)) (m' (c.tc.loc Cert.MixMemRefIdeal.main_arg8)) (m' (c.tc.loc Cert.MixMemRefIdeal.main_arg9)) (m' (c.tc.loc Cert.MixMemRefIdeal.main_arg10)) (m' (c.tc.loc Cert.MixMemRefIdeal.main_arg11)) (m' (c.tc.loc Cert.MixMemRefIdeal.main_arg12)) (m' (c.tc.loc Cert.MixMemRefIdeal.main_arg13)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.MixMemIdeal.Final.final m c
      (fun i => Cert.Finite.real_of_bit _ (congrFun (hpre c).1 i))
      (fun i => Cert.Finite.real_of_bit _ (congrFun (hpre c).2 i))).symm

end Cert.Proof
-- ==== Proof.Kv.Block.lean ====
module

public import proofs.«01_k».proof.Proof.Rows
public import proofs.«01_k».proof.Proof.Gen.MemKvIdeal.Frame
public import Idealize.ShloMosaic.Lib.Pipeline.ValueKit
public import Idealize.ShloMosaic.Lib.Pointwise
public import Idealize.ShloMosaic.Lib.Claim

@[expose] public section

set_option maxRecDepth 16384

noncomputable section

/-! # The memory's keys and values of one batch entry, read at an index -/

namespace Cert.MemKvIdeal.Block

open Cert.MemKvIdeal Cert.MemKvIdeal.Gen Cert.Rows Idealize.ShloMosaic Idealize.ShloMosaic.TcCoe Idealize.SL.Sem

variable (x0 : Vec Ideal S1x256x1024 .f32) (x1 : Vec Ideal S1x1024 .f32) (x2 x3 : Vec Ideal S1024x1024 .bf16) (x4 : Vec Ideal S1x256 .f32)
  (s : Fin 256)

/-- A memory slot through the norm and a product. -/
abbrev projected (w : Vec Ideal S1024x1024 .bf16) (n : Fin 1024) : EReal :=
  prod (rms 0x44800000#32 (fun k => x0 (ix3 0 s k)) (fun k => x1 (ix2 0 k))) (fun k j => w (ix2 k j)) n

theorem norm_apply (k : Fin 1024) : k0_pay3 x0 x1 (ix2 s k) = rms 0x44800000#32 (fun k => x0 (ix3 0 s k)) (fun k => x1 (ix2 0 k)) k := by
  pointwise [k0_pay3, rms]

theorem proj_apply (n : Fin 1024) : k0_pay4 x0 x1 x2 (ix2 s n) = projected x0 x1 s x2 n := by
  unfold projected
  simp only [funext fun k => (norm_apply x0 x1 s k).symm]
  unfold k0_pay4
  generalize k0_pay3 x0 x1 = z
  pointwise [prod]

theorem v_apply (n : Fin 1024) : k0_pay2 (k0_pay3 x0 x1) x3 (ix3 0 s n) = projected x0 x1 s x3 n := by
  unfold projected
  simp only [funext fun k => (norm_apply x0 x1 s k).symm]
  generalize k0_pay3 x0 x1 = z
  pointwise [k0_pay2, prod]

/-- A head of a row of products, normed. -/
def headed (z : FVec Ideal S256x1024 .f32) (h : Fin 4) (e : Fin 256) : EReal :=
  rms 0x43800000#32 (fun e => z (ix2 s ⟨256 * h + e, by omega⟩)) (fun e => x4 (ix2 0 e)) e

theorem head0 (e : Fin 256) : k0_pay5 x0 x1 x2 x4 (ix3 0 s e) = headed x4 s (k0_pay4 x0 x1 x2) 0 e := by
  unfold k0_pay5
  generalize k0_pay4 x0 x1 x2 = z
  pointwise [headed, rms]

theorem head1 (z : FVec Ideal S256x1024 .f32) (e : Fin 256) : k0_pay6 z x4 (ix3 0 s e) = headed x4 s z 1 e := by
  pointwise [k0_pay6, headed, rms]

theorem head2 (z : FVec Ideal S256x1024 .f32) (e : Fin 256) : k0_pay7 z x4 (ix3 0 s e) = headed x4 s z 2 e := by
  pointwise [k0_pay7, headed, rms]

theorem head3 (z : FVec Ideal S256x1024 .f32) (e : Fin 256) : k0_pay1 (k0_pay8 z) x4 (ix3 0 s e) = headed x4 s z 3 e := by
  pointwise [k0_pay1, k0_pay8, headed, rms]

theorem out6_apply (n : Fin 1024) : out0_6 x0 x1 x2 x3 x4 (ix3 0 s n) = projected x0 x1 s x3 n := by
  have e0 : ∀ X : Vec Ideal S1x256x1024 .f32, View.ld X r0_0 = X := fun X => View.ld_unit_lit _ X (by decide)
  have e1 : ∀ X : Vec Ideal S1x1024 .f32, View.ld X r0_1 = X := fun X => View.ld_unit_lit _ X (by decide)
  have e2 : ∀ X : Vec Ideal S1024x1024 .bf16, View.ld X r0_2 = X := fun X => View.ld_unit_lit _ X (by decide)
  unfold_out out0_6
  simp only [e0, e1, e2]
  rw [View.canon_cons_unit_lit _ _ _ (by decide)]
  exact v_apply x0 x1 x3 s n

theorem out5_apply (y : S1x256x1024.Idx) (h : Fin 4) (e : Fin 256) (hy1 : (y 1).val = s.val) (hy2 : (y 2).val = 256 * h.val + e.val) :
    out0_5 x0 x1 x2 x3 x4 y = headed x4 s (k0_pay4 x0 x1 x2) h e := by
  have e0 : ∀ X : Vec Ideal S1x256x1024 .f32, View.ld X r0_0 = X := fun X => View.ld_unit_lit _ X (by decide)
  have e1 : ∀ X : Vec Ideal S1x1024 .f32, View.ld X r0_1 = X := fun X => View.ld_unit_lit _ X (by decide)
  have e2 : ∀ X : Vec Ideal S1024x1024 .bf16, View.ld X r0_2 = X := fun X => View.ld_unit_lit _ X (by decide)
  have e3 : ∀ X : Vec Ideal S1x256 .f32, View.ld X r0_3 = X := fun X => View.ld_unit_lit _ X (by decide)
  unfold_out out0_5
  simp only [e0, e1, e2, e3]
  canon_tiles x h
  all_goals
    obtain rfl : x = ix3 0 s e := by
      funext a
      match a with
      | ⟨0, _⟩ => exact Fin.ext (by show (x 0).val = 0; omega)
      | ⟨1, _⟩ => exact Fin.ext (by show (x 1).val = s.val; omega)
      | ⟨2, _⟩ => exact Fin.ext (by show (x 2).val = e.val; omega)
  · obtain rfl : h = 3 := Fin.ext (by show h.val = 3; change (y 2).val = 768 + e.val at h2; omega)
    exact head3 x4 s _ e
  · obtain rfl : h = 2 := Fin.ext (by show h.val = 2; change (y 2).val = 512 + e.val at h2; omega)
    exact head2 x4 s _ e
  · obtain rfl : h = 1 := Fin.ext (by show h.val = 1; change (y 2).val = 256 + e.val at h2; omega)
    exact head1 x4 s _ e
  · obtain rfl : h = 0 := Fin.ext (by show h.val = 0; change (y 2).val = e.val at h2; omega)
    exact head0 x0 x1 x2 x4 s e

end Cert.MemKvIdeal.Block
-- ==== Proof.Kv.Ref.lean ====
module

public import proofs.«01_k».proof.Proof.Gen.MemKvRefIdeal.Read
public import proofs.«01_k».proof.Proof.Rows
public import Idealize.ShloMosaic.Lib.Pipeline.ValueKit
public import Idealize.ShloMosaic.Lib.Pointwise

@[expose] public section

set_option maxRecDepth 16384

noncomputable section

/-! # The reference of the memory's keys and values, read at an index -/

namespace Cert.MemKvRefIdeal.At

open Cert.MemKvRefIdeal Cert.MemKvRefIdeal.Read Cert.Rows Idealize.ShloMosaic Idealize.ShloMosaic.TcCoe Idealize.SL.Sem

variable (x0 : S2x256x1024.Idx → EReal) (x1 : S1024.Idx → EReal) (x2 x3 : S1024x1024.Idx → EReal) (x4 : S256.Idx → EReal)

/-- A memory slot through the norm and a product. -/
abbrev projected (w : S1024x1024.Idx → EReal) (b : Fin 2) (s : Fin 256) (n : Fin 1024) : EReal :=
  prod (rms 0x44800000#32 (fun k => x0 (ix3 b s k)) (fun k => x1 (ix1 k))) (fun k j => w (ix2 k j)) n

/-- The norm of the memory. -/
theorem norm_at (b : Fin 2) (s : Fin 256) (k : Fin 1024) : val_main_v12 (F := Ideal) x0 x1 (ix3 b s k)
    = rms 0x44800000#32 (fun k => x0 (ix3 b s k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rms]

theorem k_at (b : Fin 2) (s : Fin 256) (n : Fin 1024) : val_main_v13 (F := Ideal) x0 x1 x2 (ix3 b s n) = projected x0 x1 x2 b s n := by
  unfold projected
  simp only [funext fun k => (norm_at x0 x1 b s k).symm]
  unfold val_main_v13
  generalize val_main_v12 (F := Ideal) x0 x1 = z
  pointwise [prod]

/-- The keys, normed by heads. -/
theorem v31_at (b : Fin 2) (s : Fin 256) (n : Fin 1024) (h : Fin 4) (e : Fin 256) (hn : n.val = 256 * h.val + e.val) :
    val_main_v31 (F := Ideal) x0 x1 x2 x4 (ix3 b s n)
      = rms 0x43800000#32 (fun e => projected x0 x1 x2 b s ⟨256 * h + e, by omega⟩) (fun e => x4 (ix1 e)) e := by
  have hz : ∀ e, val_main_v14 (F := Ideal) x0 x1 x2 (ix4 b s h e) = projected x0 x1 x2 b s ⟨256 * h + e, by omega⟩ := by
    intro e
    rw [← k_at]
    have : (⟨256 * h + e, by omega⟩ : Fin 1024) = ⟨h * 256 + e, by omega⟩ := Fin.ext (by simp only; omega)
    rw [this]
    unfold val_main_v14
    generalize val_main_v13 (F := Ideal) x0 x1 x2 = z
    pointwise
  simp only [← hz]
  have hlt : h.val * 256 + e.val < 1024 := by omega
  obtain rfl : n = ⟨h * 256 + e, hlt⟩ := Fin.ext (by simp only; omega)
  clear hn
  have e1 : val_main_v31 (F := Ideal) x0 x1 x2 x4 (ix3 b s ⟨h * 256 + e, hlt⟩) = val_main_v27 (F := Ideal) x0 x1 x2 x4 (ix4 b s h e) := by
    unfold val_main_v31 val_main_v30
    generalize val_main_v27 (F := Ideal) x0 x1 x2 x4 = z
    pointwise
  rw [e1]
  unfold val_main_v27 val_main_v24 val_main_v23 val_main_v22 val_main_v21 val_main_v19 val_main_v17 val_main_v16 val_main_v15
  generalize val_main_v14 (F := Ideal) x0 x1 x2 = z
  pointwise [val_main_v26, val_main_v25, val_main_v20, val_main_v18, val_main_cst_2, val_main_cst_3, val_main_cst_4, rms]

/-- The values. -/
theorem v33_at (b : Fin 2) (s : Fin 256) (n : Fin 1024) : val_main_v33 (F := Ideal) x0 x1 x3 (ix3 b s n) = projected x0 x1 x3 b s n := by
  have e : val_main_v28 (F := Ideal) x0 x1 x3 (ix3 b s n) = projected x0 x1 x3 b s n := by
    unfold projected
    simp only [funext fun k => (norm_at x0 x1 b s k).symm]
    unfold val_main_v28
    generalize val_main_v12 (F := Ideal) x0 x1 = z
    pointwise [prod]
  rw [← e]
  unfold val_main_v33 val_main_v32 val_main_v29
  generalize val_main_v28 (F := Ideal) x0 x1 x3 = z
  pointwise

end Cert.MemKvRefIdeal.At
-- ==== Proof.Kv.Final.lean ====
module

public import proofs.«01_k».proof.Proof.Kv.Block
public import proofs.«01_k».proof.Proof.Kv.Ref
public import Idealize.ShloMosaic.Lib.Claim
public import Idealize.ShloMosaic.Lib.KernelVsHost

@[expose] public section

set_option maxRecDepth 16384

noncomputable section

/-! # The arrays the memory's keys and values leave -/

namespace Cert.MemKvIdeal.Final

open Cert.MemKvIdeal Cert.MemKvIdeal.Gen Cert.Rows Idealize.ShloMosaic Idealize.ShloMosaic.TcCoe Idealize.SL.Sem
open Idealize.ShloMosaic.Pipeline (Dat)
open Cert.MemKvRefIdeal.At (projected)

variable (m : (ℓ : Loc nD τ sig) → Buf (Elt Ideal) ℓ)

/-- Which block of its array each window holds at each point of the grid. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0] :=
  (by decide +kernel : ∀ t : Fin grid0.N, _)

/-- The batch entry of a grid point. -/
def bat (t : Fin cfg0.N) : Fin 2 := ⟨t.val, t.isLt⟩

theorem x_blk (c : Dev nD) (t : Fin cfg0.N) (s : Fin 256) (d : Fin 1024) :
    iblk m c 0 t (ix3 0 s d) = V m c main_arg0 (ix3 (bat t) s d) := by
  blk_point [iblk, idx t, bat]

theorem blk1 (c : Dev nD) (t : Fin cfg0.N) : iblk m c 1 t = V m c main_v0 := by
  funext y
  blk_point [iblk, idx t]

theorem blk2 (c : Dev nD) (t : Fin cfg0.N) : iblk m c 2 t = V m c main_v1 := by
  funext y
  blk_point [iblk, idx t]

theorem blk3 (c : Dev nD) (t : Fin cfg0.N) : iblk m c 3 t = V m c main_v2 := by
  funext y
  blk_point [iblk, idx t]

theorem blk4 (c : Dev nD) (t : Fin cfg0.N) : iblk m c 4 t = V m c main_v3 := by
  funext y
  blk_point [iblk, idx t]

/-! ## What the host prepares -/

theorem v0_at (c : Dev nD) (j : Fin 1024) : V m c main_v0 (ix2 0 j) = m (c.tc.loc main_arg1) (ix1 j) := by
  have e : V m c main_v0 = shapeCast S1x1024 (m (c.tc.loc main_arg1) : FVec Ideal S1024 .f32) shapeCasts_S1024_S1x1024 := by
    unfold V hostOps0
    after_results
    rfl
  rw [e]
  pointwise

theorem v1_at (c : Dev nD) (k j : Fin 1024) : V m c main_v1 (ix2 k j) = m (c.tc.loc main_arg2) (ix2 k j) := by
  have e : V m c main_v1 = (m (c.tc.loc main_arg2) : FVec Ideal S1024x1024 .f32) := by
    unfold V hostOps0
    after_results
    rfl
  rw [e]

theorem v2_at (c : Dev nD) (k j : Fin 1024) : V m c main_v2 (ix2 k j) = m (c.tc.loc main_arg3) (ix2 k j) := by
  have e : V m c main_v2 = (m (c.tc.loc main_arg3) : FVec Ideal S1024x1024 .f32) := by
    unfold V hostOps0
    after_results
    rfl
  rw [e]

theorem v3_at (c : Dev nD) (j : Fin 256) : V m c main_v3 (ix2 0 j) = m (c.tc.loc main_arg4) (ix1 j) := by
  have e : V m c main_v3 = shapeCast S1x256 (m (c.tc.loc main_arg4) : FVec Ideal S256 .f32) shapeCasts_S256_S1x256 := by
    unfold V hostOps0
    after_results
    rfl
  rw [e]
  pointwise

/-! ## The arrays after the run -/

/-- A row of the keys before their norm. -/
theorem key_eq (c : Dev nD) (t : Fin cfg0.N) (s : Fin 256) (n : Fin 1024) :
    Block.projected (iblk m c 0 t) (iblk m c 1 t) s (iblk m c 2 t) n
      = projected (m (c.tc.loc main_arg0)) (m (c.tc.loc main_arg1)) (m (c.tc.loc main_arg2)) (bat t) s n := by
  unfold Block.projected projected
  have h0 := funext fun k => (x_blk m c t s k).trans (congrFun (V_main_arg0 m c) _)
  have h1 := funext fun j => (congrFun (blk1 m c t) _).trans (v0_at m c j)
  have h2 := funext fun k => funext fun j => (congrFun (blk2 m c t) _).trans (v1_at m c k j)
  rw [h0, h1, h2]

/-- A row of the values. -/
theorem value_eq (c : Dev nD) (t : Fin cfg0.N) (s : Fin 256) (n : Fin 1024) :
    Block.projected (iblk m c 0 t) (iblk m c 1 t) s (iblk m c 3 t) n
      = projected (m (c.tc.loc main_arg0)) (m (c.tc.loc main_arg1)) (m (c.tc.loc main_arg3)) (bat t) s n := by
  unfold Block.projected projected
  have h0 := funext fun k => (x_blk m c t s k).trans (congrFun (V_main_arg0 m c) _)
  have h1 := funext fun j => (congrFun (blk1 m c t) _).trans (v0_at m c j)
  have h2 := funext fun k => funext fun j => (congrFun (blk3 m c t) _).trans (v2_at m c k j)
  rw [h0, h1, h2]

/-- What a grid point's body leaves of the keys. -/
theorem out5_slot (c : Dev nD) (t : Fin cfg0.N) (s : Fin 256) (n : Fin 1024) :
    out0_5 (F := Ideal) (iblk m c 0 t) (iblk m c 1 t) (iblk m c 2 t) (iblk m c 3 t) (iblk m c 4 t) (ix3 0 s n)
      = Cert.MemKvRefIdeal.Read.val_main_v31 (F := Ideal) (m (c.tc.loc main_arg0)) (m (c.tc.loc main_arg1)) (m (c.tc.loc main_arg2))
        (m (c.tc.loc main_arg4)) (ix3 (bat t) s n) := by
  have hn : n.val = 256 * (n.val / 256) + n.val % 256 := by omega
  have hh : n.val / 256 < 4 := by omega
  have he : n.val % 256 < 256 := by omega
  refine (Block.out5_apply _ _ _ _ _ s (ix3 0 s n) ⟨n.val / 256, hh⟩ ⟨n.val % 256, he⟩ rfl hn).trans ?_
  rw [Cert.MemKvRefIdeal.At.v31_at _ _ _ _ (bat t) s n ⟨n.val / 256, hh⟩ ⟨n.val % 256, he⟩ hn]
  unfold Block.headed
  simp only [Block.proj_apply, key_eq]
  have h4 := funext fun j => (congrFun (blk4 m c t) _).trans (v3_at m c j)
  rw [h4]

/-- What a grid point's body leaves of the values. -/
theorem out6_slot (c : Dev nD) (t : Fin cfg0.N) (s : Fin 256) (n : Fin 1024) :
    out0_6 (F := Ideal) (iblk m c 0 t) (iblk m c 1 t) (iblk m c 2 t) (iblk m c 3 t) (iblk m c 4 t) (ix3 0 s n)
      = Cert.MemKvRefIdeal.Read.val_main_v33 (F := Ideal) (m (c.tc.loc main_arg0)) (m (c.tc.loc main_arg1)) (m (c.tc.loc main_arg3))
        (ix3 (bat t) s n) := by
  rw [Block.out6_apply, Cert.MemKvRefIdeal.At.v33_at]
  exact value_eq m c t s n

theorem out_emb5 (t : Fin cfg0.N) (y : S1x256x1024.Idx) : (win0_5.blk t).view.emb y
    = ix3 (bat t) (⟨(y 1).val, (y 1).isLt⟩ : Fin 256) (⟨(y 2).val, (y 2).isLt⟩ : Fin 1024) := by
  have hi := (idx t).2.2.2.2.2.1
  have h0 : (y 0).val < 1 := (y 0).isLt
  blk_ext [hi, bat]

/-- The array of the keys after the run is the reference's. -/
theorem final5 (c : Dev nD) :
    (dats m 0 c).arrAt 5 (cfgs 0).N = fun i : S2x256x1024.Idx =>
      Cert.MemKvRefIdeal.Read.val_main_v31 (F := Ideal) (m (c.tc.loc main_arg0)) (m (c.tc.loc main_arg1)) (m (c.tc.loc main_arg2)) (m (c.tc.loc main_arg4)) i := by
  refine (dats m 0 c).arrAt_eq_of_covers 5 _ (by decide +kernel) fun t _ y => ?_
  blk_simp
  rw [after0_5]
  have h0 : (y 0).val < 1 := (y 0).isLt
  have h1 : (y 1).val < 256 := (y 1).isLt
  have h2 : (y 2).val < 1024 := (y 2).isLt
  have hy : y = ix3 (0 : Fin 1) (⟨(y 1).val, h1⟩ : Fin 256) (⟨(y 2).val, h2⟩ : Fin 1024) := by
    funext a
    match a with
    | ⟨0, _⟩ => exact Fin.ext (by show (y 0).val = 0; omega)
    | ⟨1, _⟩ => rfl
    | ⟨2, _⟩ => rfl
  rw [out_emb5 t y]
  exact (congrArg _ hy).trans (out5_slot m c t _ _)

theorem out_emb6 (t : Fin cfg0.N) (y : S1x256x1024.Idx) : (win0_6.blk t).view.emb y
    = ix3 (bat t) (⟨(y 1).val, (y 1).isLt⟩ : Fin 256) (⟨(y 2).val, (y 2).isLt⟩ : Fin 1024) := by
  have hi := (idx t).2.2.2.2.2.2
  have h0 : (y 0).val < 1 := (y 0).isLt
  blk_ext [hi, bat]

/-- The array of the values after the run is the reference's. -/
theorem final6 (c : Dev nD) :
    (dats m 0 c).arrAt 6 (cfgs 0).N = fun i : S2x256x1024.Idx =>
      Cert.MemKvRefIdeal.Read.val_main_v33 (F := Ideal) (m (c.tc.loc main_arg0)) (m (c.tc.loc main_arg1)) (m (c.tc.loc main_arg3)) i := by
  refine (dats m 0 c).arrAt_eq_of_covers 6 _ (by decide +kernel) fun t _ y => ?_
  blk_simp
  rw [after0_6]
  have h0 : (y 0).val < 1 := (y 0).isLt
  have h1 : (y 1).val < 256 := (y 1).isLt
  have h2 : (y 2).val < 1024 := (y 2).isLt
  have hy : y = ix3 (0 : Fin 1) (⟨(y 1).val, h1⟩ : Fin 256) (⟨(y 2).val, h2⟩ : Fin 1024) := by
    funext a
    match a with
    | ⟨0, _⟩ => exact Fin.ext (by show (y 0).val = 0; omega)
    | ⟨1, _⟩ => rfl
    | ⟨2, _⟩ => rfl
  rw [out_emb6 t y]
  exact (congrArg _ hy).trans (out6_slot m c t _ _)

end Cert.MemKvIdeal.Final
-- ==== Proof.Kv.Claims.lean ====
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Kv.Final

@[expose] public section

noncomputable section

/-! # The claims about the memory's keys and values -/

namespace Cert.Proof

open Idealize.ShloMosaic Idealize.SL.Sem

/-- The reference runs and leaves its arguments. -/
theorem kv_ref_frame : quiescent_MemKvRefIdeal := by
  intro m ρ _
  exact (θ_run Cert.MemKvRefIdeal.defs _ _).mono
    (fun r h => ⟨fun c => (h c).2.2, sem_eq_zero_of_no_sems (by decide) r.2⟩)
    (Cert.MemKvRefIdeal.Value.run m ρ)

/-- The kernel's two arrays are the reference's. -/
theorem kv_algebraic : algebraic_MemKvIdeal_MemKvRefIdeal := by
  pair_intro
  · run_from Cert.MemKvIdeal.Value.run_blocks m g
  · run_from Cert.MemKvRefIdeal.Value.run m' g'
    · refine (Cert.MemKvRefIdeal.Read.val_main_v31_eq (m (c.tc.loc Cert.MemKvIdeal.main_arg0)) (m (c.tc.loc Cert.MemKvIdeal.main_arg1)) (m (c.tc.loc Cert.MemKvIdeal.main_arg2)) (m (c.tc.loc Cert.MemKvIdeal.main_arg4))).trans ?_
      exact (Cert.MemKvIdeal.Final.final5 m c).symm
    · refine (Cert.MemKvRefIdeal.Read.val_main_v33_eq (m (c.tc.loc Cert.MemKvIdeal.main_arg0)) (m (c.tc.loc Cert.MemKvIdeal.main_arg1)) (m (c.tc.loc Cert.MemKvIdeal.main_arg3))).trans ?_
      exact (Cert.MemKvIdeal.Final.final6 m c).symm

end Cert.Proof
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.MixMem
public import proofs.«01_k».proof.Proof.Gen.MixMem.Skeleton
public import proofs.«01_k».proof.Proof.Gen.MixMem.Launch
public import proofs.«01_k».proof.Proof.Gen.MixMem.Points
public import proofs.«01_k».proof.Proof.Gen.MixMem.Frame
public import proofs.«01_k».proof.Proof.Gen.MixMemIdeal
public import proofs.«01_k».proof.Proof.Gen.MixMemIdeal.Skeleton
public import proofs.«01_k».proof.Proof.Gen.MixMemIdeal.Launch
public import proofs.«01_k».proof.Proof.Gen.MixMemIdeal.Points
public import proofs.«01_k».proof.Proof.Gen.MixMemIdeal.Frame
public import proofs.«01_k».proof.Proof.Gen.MixMemRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Pre_finite_qk
public import proofs.«01_k».proof.Proof.Gen.Pre_finite_x
public import proofs.«01_k».proof.Proof.Gen.Pre_finite_mix
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.MixMemIdeal.Value
public import proofs.«01_k».proof.Proof.Gen.MixMemRefIdeal.Run
public import proofs.«01_k».proof.Proof.Gen.MixMemRefIdeal.Read
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Attn.Claims
public import proofs.«01_k».proof.Proof.InProj.Claims
public import proofs.«01_k».proof.Proof.Mix.Claims
public import proofs.«01_k».proof.Proof.Kv.Claims

@[expose] public section

noncomputable section

namespace Cert.Proof

open Idealize.ShloMosaic Idealize.SL.Sem

theorem claim : Cert.Claim := ⟨Cert.Attn.Gen.facts, Cert.AttnIdeal.Gen.facts, Cert.AttnRefIdeal.Gen.facts,
  Cert.InProj.Gen.facts, Cert.InProjIdeal.Gen.facts, Cert.InProjRefIdeal.Gen.facts,
  Cert.MixMem.Gen.facts, Cert.MixMemIdeal.Gen.facts, Cert.MixMemRefIdeal.Gen.facts,
  Cert.MemKv.Gen.facts, Cert.MemKvIdeal.Gen.facts, Cert.MemKvRefIdeal.Gen.facts,
  Cert.Pre_finite_qk.Gen.facts, Cert.Pre_finite_x.Gen.facts, Cert.Pre_finite_mix.Gen.facts,
  fun m ρ _ => Cert.Attn.Gen.frame m ρ, fun m ρ _ => Cert.AttnIdeal.Gen.frame m ρ, fun m ρ _ => Cert.AttnIdeal.Gen.frame m ρ,
  attn_ref_frame, attn_ref_frame_pre,
  fun m ρ _ => Cert.InProj.Gen.frame m ρ, fun m ρ _ => Cert.InProjIdeal.Gen.frame m ρ, fun m ρ _ => Cert.InProjIdeal.Gen.frame m ρ,
  inproj_ref_frame, inproj_ref_frame_pre,
  fun m ρ _ => Cert.MixMem.Gen.frame m ρ, fun m ρ _ => Cert.MixMemIdeal.Gen.frame m ρ, fun m ρ _ => Cert.MixMemIdeal.Gen.frame m ρ,
  mix_ref_frame, mix_ref_frame_pre,
  fun m ρ _ => Cert.MemKv.Gen.frame m ρ, fun m ρ _ => Cert.MemKvIdeal.Gen.frame m ρ,
  kv_ref_frame,
  IdealRules.named_const.statement Cert.AttnIdeal.κ "mask" .f32 0xF149F2CA#32 ⊥ rfl, attn_algebraic,
  trivial, inproj_algebraic,
  trivial, mix_algebraic,
  trivial, kv_algebraic⟩

end Cert.Proof

end
